-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x768x6144 : Shape := ⟨3, ![3, 768, 6144]⟩
abbrev S256x256 : Shape := ⟨2, ![256, 256]⟩
abbrev S3x768x1 : Shape := ⟨3, ![3, 768, 1]⟩
abbrev S1x128x6144 : Shape := ⟨3, ![1, 128, 6144]⟩
abbrev S1x128x1 : Shape := ⟨3, ![1, 128, 1]⟩
abbrev S128x6144 : Shape := ⟨2, ![128, 6144]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S3x768x6144, .bf16⟩
  | .hbm, ⟨1, _⟩ => ⟨S256x256, .bf16⟩
  | .hbm, ⟨2, _⟩ => ⟨S3x768x1, .f32⟩
  | .hbm, ⟨3, _⟩ => ⟨S3x768x6144, .fp8e4m3⟩
  | .local _ .vmem, ⟨0, _⟩ => ⟨S1x128x6144, .bf16⟩
  | .local _ .vmem, ⟨1, _⟩ => ⟨S1x128x6144, .bf16⟩
  | .local _ .vmem, ⟨2, _⟩ => ⟨S256x256, .bf16⟩
  | .local _ .vmem, ⟨3, _⟩ => ⟨S1x128x1, .f32⟩
  | .local _ .vmem, ⟨4, _⟩ => ⟨S1x128x1, .f32⟩
  | .local _ .vmem, ⟨5, _⟩ => ⟨S1x128x6144, .fp8e4m3⟩
  | .local _ .vmem, ⟨6, _⟩ => ⟨S1x128x6144, .fp8e4m3⟩
  | .local _ .vmem, ⟨7, _⟩ => ⟨S128x6144, .f32⟩
  | _, _ => ⟨S3x768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3x768x6144 : Shape := ⟨3, ![3, 768, 6144]⟩
abbrev S128x128 : Shape := ⟨2, ![128, 128]⟩
abbrev S3x768x48x128 : Shape := ⟨4, ![3, 768, 48, 128]⟩
abbrev S_ : Shape := ⟨0, ![]⟩
abbrev S3x768 : Shape := ⟨2, ![3, 768]⟩
abbrev S3x768x1 : Shape := ⟨3, ![3, 768, 1]⟩

abbrev nBuf : Space → Nat
  | .hbm => 61
  | .vmem => 2
  | .smem => 0
  | _ => 0

abbrev bufTy : (tb : Table) → Fin (tcTables nBuf tb) → BufTy
  | .hbm, ⟨0, _⟩ => ⟨S3x768x6144, .bf16⟩
  | .hbm, ⟨1, _⟩ => ⟨S128x128, .bf16⟩
  | .hbm, ⟨2, _⟩ => ⟨S3x768x48x128, .bf16⟩
  | .hbm, ⟨3, _⟩ => ⟨S3x768x48x128, .f32⟩
  | .hbm, ⟨4, _⟩ => ⟨S_, .f32⟩
  | .hbm, ⟨5, _⟩ => ⟨S3x768x48x128, .f32⟩
  | .hbm, ⟨6, _⟩ => ⟨S3x768x48x128, .f32⟩
  | .hbm, ⟨7, _⟩ => ⟨S3x768x6144, .f32⟩
  | .hbm, ⟨8, _⟩ => ⟨S3x768x6144, .f32⟩
  | .hbm, ⟨9, _⟩ => ⟨S_, .f32⟩
  | .hbm, ⟨10, _⟩ => ⟨S3x768, .f32⟩
  | .hbm, ⟨11, _⟩ => ⟨S3x768x1, .f32⟩
  | .hbm, ⟨12, _⟩ => ⟨S_, .f32⟩
  | .hbm, ⟨13, _⟩ => ⟨S3x768x1, .f32⟩
  | .hbm, ⟨14, _⟩ => ⟨S3x768x1, .f32⟩
  | .hbm, ⟨15, _⟩ => ⟨S3x768x1, .f32⟩
  | .hbm, ⟨16, _⟩ => ⟨S_, .f32⟩
  | .hbm, ⟨17, _⟩ => ⟨S3x768x1, .f32⟩
  | .hbm, ⟨18, _⟩ => ⟨S3x768x1, .f32⟩
  | .hbm, ⟨19, _⟩ => ⟨S3x768x1, .f32⟩
  | .hbm, ⟨20, _⟩ => ⟨S_, .f32⟩
  | .hbm, ⟨21, _⟩ => ⟨S3x768x1, .f32⟩
  | .hbm, ⟨22, _⟩ => ⟨S3x768x1, .i1⟩
  | .hbm, ⟨23, _⟩ => ⟨S_, .f32⟩
  | .hbm, ⟨24, _⟩ => ⟨S3x768x1, .f32⟩
  | .hbm, ⟨25, _⟩ => ⟨S3x768x1, .i1⟩
  | .hbm, ⟨26, _⟩ => ⟨S3x768x1, .i1⟩
  | .hbm, ⟨27, _⟩ => ⟨S3x768x1, .f32⟩
  | .hbm, ⟨28, _⟩ => ⟨S_, .f32⟩
  | .hbm, ⟨29, _⟩ => ⟨S3x768x1, .f32⟩
  | .hbm, ⟨30, _⟩ => ⟨S3x768x1, .f32⟩
  | .hbm, ⟨31, _⟩ => ⟨S_, .f32⟩
  | .hbm, ⟨32, _⟩ => ⟨S_, .f32⟩
  | .hbm, ⟨33, _⟩ => ⟨S3x768x1, .f32⟩
  | .hbm, ⟨34, _⟩ => ⟨S3x768x1, .f32⟩
  | .hbm, ⟨35, _⟩ => ⟨S3x768x1, .i32⟩
  | .hbm, ⟨36, _⟩ => ⟨S_, .f32⟩
  | .hbm, ⟨37, _⟩ => ⟨S3x768x1, .f32⟩
  | .hbm, ⟨38, _⟩ => ⟨S3x768x1, .i1⟩
  | .hbm, ⟨39, _⟩ => ⟨S_, .i32⟩
  | .hbm, ⟨40, _⟩ => ⟨S_, .i32⟩
  | .hbm, ⟨41, _⟩ => ⟨S3x768x1, .i32⟩
  | .hbm, ⟨42, _⟩ => ⟨S3x768x1, .i32⟩
  | .hbm, ⟨43, _⟩ => ⟨S_, .f32⟩
  | .hbm, ⟨44, _⟩ => ⟨S3x768x1, .f32⟩
  | .hbm, ⟨45, _⟩ => ⟨S3x768x1, .f32⟩
  | .hbm, ⟨46, _⟩ => ⟨S3x768x1, .f32⟩
  | .hbm, ⟨47, _⟩ => ⟨S3x768x1, .i32⟩
  | .hbm, ⟨48, _⟩ => ⟨S3x768x1, .f32⟩
  | .hbm, ⟨49, _⟩ => ⟨S3x768x1, .f32⟩
  | .hbm, ⟨50, _⟩ => ⟨S3x768x6144, .f32⟩
  | .hbm, ⟨51, _⟩ => ⟨S3x768x6144, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S3x768x6144, .f32⟩
  | .hbm, ⟨56, _⟩ => ⟨S3x768x6144, .f32⟩
  | .hbm, ⟨57, _⟩ => ⟨S_, .f32⟩
  | .hbm, ⟨58, _⟩ => ⟨S3x768x6144, .f32⟩
  | .hbm, ⟨59, _⟩ => ⟨S3x768x6144, .f32⟩
  | .hbm, ⟨60, _⟩ => ⟨S3x768x6144, .fp8e4m3⟩
  | .local _ .vmem, ⟨0, _⟩ => ⟨S3x768x6144, .f32⟩
  | .local _ .vmem, ⟨1, _⟩ => ⟨S3x768x6144, .fp8e4m3⟩
  | _, _ => ⟨S3x768x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_6 : Ref sig .tc := ⟨.hbm, 28, rfl⟩
abbrev main_v20 : Ref sig .tc := ⟨.hbm, 29, rfl⟩
abbrev main_v21 : Ref sig .tc := ⟨.hbm, 30, rfl⟩
abbrev main_cst_7 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x768x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x768x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Exponent.lean ====
/- The exponent of a power-of-two scale, over the extended reals.

   The kernel finds the exponent `e` with `2^(e-1) ≤ t < 2^e` by a rounded logarithm and two corrections, and forms
   `2^e` from the bits of a float. The reference takes the floor of the exact logarithm and a power. Over the extended
   reals the corrections never fire and the bits spell the power, so the two agree. -/
module

public import Idealize.ShloMosaic.PureOps
public import Idealize.ShloMosaic.PureOps.Ideal.Laws
public import Idealize.ShloMosaic.Lib.IdealHost

@[expose] public section

noncomputable section

namespace HadamardQuant

open Idealize.ShloMosaic

/-! ### Integers as floats -/

/-- The extended real that the integer `n` is. -/
def ofInt (n : ℤ) : EReal := ((n : ℝ) : EReal)

theorem ofInt_le {a b : ℤ} : ofInt a ≤ ofInt b ↔ a ≤ b := by
  unfold ofInt; rw [EReal.coe_le_coe_iff]; exact_mod_cast Iff.rfl

theorem ofInt_add_one (n : ℤ) : ofInt n + 1 = ofInt (n + 1) := by
  unfold ofInt; rw [← EReal.coe_one, ← EReal.coe_add]; push_cast; rfl

theorem ofInt_sub_one (n : ℤ) : ofInt n - 1 = ofInt (n - 1) := by
  unfold ofInt; rw [← EReal.coe_one, ← EReal.coe_sub]; push_cast; rfl

/-- Rounding an integer between -126 and 127 toward zero is that integer. -/
theorem fptosi_ofInt {n : ℤ} (h0 : -126 ≤ n) (h1 : n ≤ 127) : Ideal.fptosi 32 (ofInt n) = BitVec.ofInt 32 n := by
  unfold Ideal.fptosi ofInt
  rw [Ideal.toIntClamped_coe, Int.floor_intCast, Int.ceil_intCast, ite_self]
  congr 1
  rw [min_eq_right (by norm_num; omega), max_eq_right (by norm_num; omega)]

/-! ### The constants the two programs spell -/

theorem ofBits_neg126 : Ideal.ofBits .f32 0xC2FC0000#32 = ofInt (-126) := by
  simp [Ideal.ofBits, Ideal.ieee, ofInt, -EReal.coe_mul, -EReal.coe_neg]; norm_num

theorem ofBits_127 : Ideal.ofBits .f32 0x42FE0000#32 = ofInt 127 := by
  simp [Ideal.ofBits, Ideal.ieee, ofInt, -EReal.coe_mul]; norm_num

theorem ofBits_two : Ideal.ofBits .f32 0x40000000#32 = ((2 : ℝ) : EReal) := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

/-! ### Two to an integer power, from bits -/

/-- The words `(n + 127) << 23` for `n` from -126 to 127: sign zero, fraction zero, exponent field `n + 127`. -/
theorem pow2_word : ∀ k : Fin 254,
    ((((BitVec.ofInt 32 ((k.val : ℤ) - 126) + 127#32) <<< (23 : ℕ)).extractLsb' 31 1 == 1#1) = false)
      ∧ (((BitVec.ofInt 32 ((k.val : ℤ) - 126) + 127#32) <<< (23 : ℕ)).extractLsb' 23 8).toNat = k.val + 1
      ∧ (((BitVec.ofInt 32 ((k.val : ℤ) - 126) + 127#32) <<< (23 : ℕ)).extractLsb' 0 23).toNat = 0 := by
  decide +kernel

/-- A float with sign zero, fraction zero and exponent field `k + 1` is `2^(k - 126)`. -/
theorem ieee_of_fields (b : BitVec 32) (k : ℕ) (hk : k < 254) (hs : (b.extractLsb' 31 1 == 1#1) = false)
    (he : (b.extractLsb' 23 8).toNat = k + 1) (hf : (b.extractLsb' 0 23).toNat = 0) :
    Ideal.ieee 8 23 b = (((2 : ℝ) ^ ((k : ℤ) - 126) : ℝ) : EReal) := by
  unfold Ideal.ieee
  simp only [show 8 + 23 = 31 from rfl, hs, he, hf]
  rw [if_neg (by norm_num; omega), if_neg (by omega)]
  refine congrArg (fun x : ℝ => (x : EReal)) ?_
  simp only [Bool.false_eq_true, if_false, one_mul, add_zero]
  have h23 : ((2 ^ 23 : ℕ) : ℝ) = (2 : ℝ) ^ (23 : ℤ) := by norm_num
  rw [h23, ← zpow_add₀ (by norm_num : (2 : ℝ) ≠ 0)]
  congr 1
  push_cast; ring

/-- A float whose exponent field is `n + 127` and whose other bits are zero is `2^n`. -/
theorem ofBits_pow2 {n : ℤ} (h0 : -126 ≤ n) (h1 : n ≤ 127) :
    Ideal.ofBits .f32 ((BitVec.ofInt 32 n + 127#32) <<< (23 : ℕ)) = (((2 : ℝ) ^ n : ℝ) : EReal) := by
  obtain ⟨k, hk⟩ : ∃ k : Fin 254, n = (k.val : ℤ) - 126 := ⟨⟨(n + 126).toNat, by omega⟩, by simp; omega⟩
  subst hk
  obtain ⟨hs, he, hf⟩ := pow2_word k
  exact ieee_of_fields _ k.val k.isLt hs he hf

theorem exp2_ofInt (n : ℤ) : Ideal.exp2 (ofInt n) = (((2 : ℝ) ^ n : ℝ) : EReal) := by
  unfold ofInt
  rw [Ideal.exp2_coe, Real.rpow_eq_pow, Real.rpow_intCast]

theorem pow_two_ofInt (n : ℤ) : Ideal.pow ((2 : ℝ) : EReal) (ofInt n) = (((2 : ℝ) ^ n : ℝ) : EReal) := by
  unfold ofInt
  rw [Ideal.pow_coe_coe, Real.rpow_eq_pow, Real.rpow_intCast]

/-- The kernel's power of two: from the bits inside the range of a float's exponent, by `exp2` outside it. -/
def pow2 (e : EReal) : EReal :=
  Scalar.select (IntOp.andi (Ideal.cmp .oge e (Ideal.ofBits .f32 0xC2FC0000#32)) (Ideal.cmp .ole e (Ideal.ofBits .f32 0x42FE0000#32)))
    (Ideal.ofBits .f32 (IntOp.shli .vector (IntOp.addi (Ideal.fptosi 32 e) 127#32) 23#32)) (Ideal.exp2 e)

theorem shl_word (x : BitVec 32) : IntOp.shli .vector x 23#32 = x <<< (23 : ℕ) := rfl

theorem cmp_oge_ofInt (a b : ℤ) : Ideal.cmp .oge (ofInt a) (ofInt b) = BitVec.ofBool (decide (b ≤ a)) := by
  simp only [Ideal.cmp, ofInt_le]

theorem cmp_ole_ofInt (a b : ℤ) : Ideal.cmp .ole (ofInt a) (ofInt b) = BitVec.ofBool (decide (a ≤ b)) := by
  simp only [Ideal.cmp, ofInt_le]

/-- At an integer the kernel's power of two is the power. -/
theorem pow2_ofInt (n : ℤ) : pow2 (ofInt n) = (((2 : ℝ) ^ n : ℝ) : EReal) := by
  unfold pow2
  rw [ofBits_neg126, ofBits_127, cmp_oge_ofInt, cmp_ole_ofInt, exp2_ofInt, shl_word]
  by_cases h0 : -126 ≤ n
  · by_cases h1 : n ≤ 127
    · rw [fptosi_ofInt h0 h1]
      show (if _ then _ else _) = _
      rw [if_pos (by simp [h0, h1]; rfl)]
      exact ofBits_pow2 h0 h1
    · show (if _ then _ else _) = _
      rw [if_neg (by simp [h0, h1, IntOp.andi])]
  · show (if _ then _ else _) = _
    rw [if_neg (by simp [h0, IntOp.andi])]

/-! ### The exponent -/

/-- The kernel's first estimate `floor(log t / log 2) + 1`. -/
def estimate (t : EReal) : EReal :=
  Ideal.liftRound Int.floor (Ideal.div (Ideal.log t) (Ideal.log (Ideal.ofBits .f32 0x40000000#32)))
    + Ideal.ofBits .f32 0x3F800000#32

/-- The kernel's estimate after its first correction: one more where `2^e ≤ t`. -/
def raised (t : EReal) : EReal :=
  Scalar.select (Ideal.cmp .ole (pow2 (estimate t)) t) (estimate t + Ideal.ofBits .f32 0x3F800000#32) (estimate t)

/-- The kernel's estimate after its second correction: one less where `t < 2^(e-1)`. -/
def lowered (t : EReal) : EReal :=
  Scalar.select (Ideal.cmp .ogt (pow2 (raised t - Ideal.ofBits .f32 0x3F800000#32)) t)
    (raised t - Ideal.ofBits .f32 0x3F800000#32) (raised t)

/-- Whether `t` is positive and finite, as a bit. -/
def regular (t : EReal) : BitVec 1 :=
  IntOp.andi (Ideal.cmp .ogt t (Ideal.ofBits .f32 0x00000000#32)) (Ideal.cmp .olt t (Ideal.ofBits .f32 0x7F800000#32))

/-- The exponent word that a row's largest magnitude `a` and its scaled value `t` give, from an estimate `e`. -/
def expWord (e : EReal → EReal) (a t : EReal) : BitVec 32 :=
  Scalar.select (Ideal.cmp .oeq a (Ideal.ofBits .f32 0x00000000#32)) 0#32
    (Ideal.fptosi 32 (Scalar.select (regular t) (e t) (Ideal.ofBits .f32 0x00000000#32)))

theorem regular_eq (t : EReal) : regular t = 1 ↔ 0 < t ∧ t < ⊤ := by
  unfold regular
  rw [Ideal.ofBits_zero_f32, ofBits_top]
  by_cases h0 : 0 < t <;> by_cases h1 : t < ⊤ <;> simp [Ideal.cmp, IntOp.andi, h0, h1]

/-- On a positive real the estimate is the integer `floor(log2 t) + 1`. -/
theorem estimate_coe {t : ℝ} (ht : 0 < t) : estimate (t : EReal) = ofInt (⌊Real.log t / Real.log 2⌋ + 1) := by
  have h2 : Real.log 2 ≠ 0 := (Real.log_pos (by norm_num)).ne'
  unfold estimate
  rw [ofBits_two, Ideal.ofBits_one_f32, Ideal.log_coe, Ideal.log_coe, if_neg (not_le.mpr ht), if_neg (by norm_num)]
  unfold Ideal.div
  rw [if_neg (by exact_mod_cast h2), ← EReal.coe_inv, ← EReal.coe_mul, ← div_eq_mul_inv]
  exact ofInt_add_one _

theorem zpow_floor_le {t : ℝ} (ht : 0 < t) : (2 : ℝ) ^ ⌊Real.log t / Real.log 2⌋ ≤ t := by
  have h2 : 0 < Real.log 2 := Real.log_pos (by norm_num)
  rw [← Real.rpow_intCast, ← Real.log_le_log_iff (by positivity) ht, Real.log_rpow (by norm_num), ← le_div_iff₀ h2]
  exact Int.floor_le _

theorem lt_zpow_floor {t : ℝ} (ht : 0 < t) : t < (2 : ℝ) ^ (⌊Real.log t / Real.log 2⌋ + 1) := by
  have h2 : 0 < Real.log 2 := Real.log_pos (by norm_num)
  rw [← Real.rpow_intCast, ← Real.log_lt_log_iff ht (by positivity), Real.log_rpow (by norm_num), ← div_lt_iff₀ h2]
  push_cast
  exact Int.lt_floor_add_one _

/-- The first correction does not fire on a positive real: `t < 2^e` already. -/
theorem raised_coe {t : ℝ} (ht : 0 < t) : raised (t : EReal) = estimate (t : EReal) := by
  unfold raised
  rw [estimate_coe ht, pow2_ofInt]
  show (if _ then _ else _) = _
  rw [if_neg]
  have h := lt_zpow_floor ht
  simp only [Ideal.cmp, EReal.coe_le_coe_iff, not_le.mpr h]
  decide

/-- Nor does the second: `2^(e-1) ≤ t` already. -/
theorem lowered_coe {t : ℝ} (ht : 0 < t) : lowered (t : EReal) = estimate (t : EReal) := by
  unfold lowered
  rw [raised_coe ht, estimate_coe ht, Ideal.ofBits_one_f32, ofInt_sub_one, pow2_ofInt, add_sub_cancel_right]
  show (if _ then _ else _) = _
  rw [if_neg]
  have h := zpow_floor_le ht
  simp only [Ideal.cmp, EReal.coe_lt_coe_iff, not_lt.mpr h]
  decide

/-- The corrected estimate and the plain one give the same exponent word, whatever the row. -/
theorem expWord_lowered (a t : EReal) : expWord lowered a t = expWord estimate a t := by
  unfold expWord
  by_cases h : regular t = 1
  · obtain ⟨h0, h1⟩ := (regular_eq t).mp h
    lift t to ℝ using ⟨h1.ne, (bot_lt_of_lt h0).ne'⟩
    rw [lowered_coe (by exact_mod_cast h0)]
  · have hs : ∀ x y : EReal, Scalar.select (regular t) x y = y := fun x y => if_neg h
    rw [hs, hs]

/-! ### The scale and its inverse -/

/-- The kernel's power of two of an integer word is the reference's power. -/
theorem pow2_word_eq (e : BitVec 32) :
    pow2 (ofInt e.toInt) = Ideal.pow (Ideal.ofBits .f32 0x40000000#32) (ofInt e.toInt) := by
  rw [ofBits_two, pow2_ofInt, pow_two_ofInt]

end HadamardQuant

end
-- ==== Proof.Row.lean ====
/- What is computed of one row of 6144 transformed values, over the extended reals: its largest magnitude, its exponent,
   its scale, and the clipped values that become its codes. Both programs are shown to compute these. -/
module

public import proofs.«01_k».proof.Proof.Exponent

@[expose] public section

noncomputable section

namespace HadamardQuant

open Idealize.ShloMosaic

/-- The factor `128^(-1/2)`, rounded as the two programs spell it. -/
def norm : EReal := Ideal.ofBits .f32 0x3DB504F3#32

/-- The factor `1/448`, rounded as the two programs spell it. -/
def invMax : EReal := Ideal.ofBits .f32 0x3B124925#32

/-- The largest magnitude of a row. -/
def rowMax (y : Fin 6144 → EReal) : EReal := Finset.univ.sup fun q : Fin 6144 => max (y q) (-y q)

/-- The exponent word of a row. -/
def rowExp (y : Fin 6144 → EReal) : BitVec 32 := expWord estimate (rowMax y) (rowMax y * invMax)

/-- The scale of a row: two to its exponent. -/
def rowScale (y : Fin 6144 → EReal) : EReal := Ideal.pow (Ideal.ofBits .f32 0x40000000#32) (ofInt (rowExp y).toInt)

/-- A row's value before it becomes a code: times two to the negated exponent, then clipped to [-448, 448]. -/
def clipped (y : Fin 6144 → EReal) (q : Fin 6144) : EReal :=
  min (Ideal.ofBits .f32 0x43E00000#32) (max (Ideal.ofBits .f32 0xC3E00000#32)
    (y q * Ideal.pow (Ideal.ofBits .f32 0x40000000#32) (ofInt (-rowExp y).toInt)))

/-- A row multiplied 256 columns at a time by a matrix of 256 rows and columns, and by the factor. -/
def product (x : Fin 6144 → EReal) (M : Fin 256 → Fin 256 → EReal) (q : Fin 6144) : EReal :=
  (∑ k : Fin 256, x ⟨256 * (q.val / 256) + k.val, by omega⟩ * M k ⟨q.val % 256, by omega⟩) * norm

end HadamardQuant

end
-- ==== Proof.Block.lean ====
/- What one grid point computes, over the extended reals.

   The body takes a block `x0` of 128 rows of 6144 columns and the transform's matrix `x1` of 256 rows and columns. It
   multiplies the block by the matrix 256 columns at a time, keeps the 24 products in a scratch array, and takes the
   largest magnitude of each row, from which it forms the row's scale and the row's codes. -/
module

public import proofs.«01_k».proof.Proof.Gen.KernelIdeal.Value
public import proofs.«01_k».proof.Proof.Row
public import Idealize.ShloMosaic.Lib.Pipeline.ValueKit
public import Idealize.ShloMosaic.Lib.MatmulPlain

@[expose] public section

set_option maxRecDepth 16384

noncomputable section

namespace HadamardQuant

open Idealize.ShloMosaic Idealize.ShloMosaic.TcCoe Idealize.SL.Sem
open Cert.KernelIdeal Cert.KernelIdeal.Gen

variable (x0 : Vec Ideal S1x128x6144 .bf16) (x1 : Vec Ideal S256x256 .bf16)

/-- Row `r` of the transformed block. -/
def yAt (r : Fin 128) : Fin 6144 → EReal := product (fun k => x0 (ix3 0 r k)) fun k c => x1 (ix2 k c)

/-! ### The products -/

/-- One product of 128 rows of 256 columns by the matrix, at an element. -/
theorem tile_apply (v : Vec Ideal S1x128x256 .bf16) (r : Fin 128) (c : Fin 256) :
    k0_pay2 x1 v (ix2 r c) = (∑ k : Fin 256, v (ix3 0 r k) * x1 (ix2 k c)) * norm := by
  unfold k0_pay2
  show FloatOps.matmul (F := Ideal) (DotDims.plain 128 256 256) none (shapeCast S128x256 v shapeCasts_S1x128x256_S128x256) x1
    (constant S128x256 .f32 0x00000000#32) (ix2 r c) * norm = _
  refine (congrArg (· * norm) (Ideal.matmul_plain_apply none _ _ _ r c)).trans ?_
  show (Ideal.ofBits .f32 0x00000000#32 + _) * norm = _
  rw [Ideal.ofBits_zero_f32, zero_add]
  refine congrArg (· * norm) (Finset.sum_congr rfl fun k _ => congrArg (· * _) ?_)
  pointwise

/-- The 256 columns of the block from column `o` on. -/
abbrev cols (o : ℕ) (h : ∀ a, (![0, 0, o] : Fin 3 → ℕ) a + (![1, 128, 256] : Fin 3 → ℕ) a ≤ S1x128x6144.size a) :
    Vec Ideal S1x128x256 .bf16 :=
  View.ld x0 (Rect.unit (s := S1x128x6144) ![0, 0, o] ![1, 128, 256] h)

theorem cols_apply (o : ℕ) (h) (r : Fin 128) (k : Fin 256) (q : Fin 6144) (hq : q.val = o + k.val) :
    cols x0 o h (ix3 0 r k) = x0 (ix3 0 r q) := by
  refine View.ld_unit_apply_of _ _ _ _ _ _ fun a => ?_
  match a with
  | ⟨0, _⟩ => rfl
  | ⟨1, _⟩ => exact (Nat.zero_add _).symm
  | ⟨2, _⟩ => exact hq

/-- The product of the columns from `256 * t` on holds the transformed block's columns from there on. -/
theorem tile_cols (o t : ℕ) (h) (ho : o = 256 * t) (r : Fin 128) (c : Fin 256) (q : Fin 6144) (hq : q.val = o + c.val) :
    k0_pay2 x1 (cols x0 o h) (ix2 r c) = yAt x0 x1 r q := by
  have hc := c.isLt
  rw [tile_apply, yAt, product]
  have e : (⟨q.val % 256, by omega⟩ : Fin 256) = c := Fin.ext (by show q.val % 256 = c.val; omega)
  rw [e]
  refine congrArg (· * norm) (Finset.sum_congr rfl fun k _ => congrArg (· * _) ?_)
  exact cols_apply x0 o h r k _ (by show 256 * (q.val / 256) + k.val = o + k.val; omega)

/-- The running largest magnitude over the first 23 products, lane by lane. -/
def runMax : FVec Ideal S128x256 .f32 :=
  k0_pay56 x1
    (k0_pay47 x1
      (k0_pay39 x1
        (k0_pay32 x1
          (k0_pay23 x1
            (k0_pay15 x1 (k0_pay8 x1 (cols x0 0 inb_S1x128x6144_S1x128x256_0_0_0) (cols x0 256 inb_S1x128x6144_S1x128x256_0_0_256) (cols x0 512 inb_S1x128x6144_S1x128x256_0_0_512))
              (cols x0 768 inb_S1x128x6144_S1x128x256_0_0_768) (cols x0 1024 inb_S1x128x6144_S1x128x256_0_0_1024) (cols x0 1280 inb_S1x128x6144_S1x128x256_0_0_1280))
            (k0_pay16 x1 (cols x0 1536 inb_S1x128x6144_S1x128x256_0_0_1536)) (FloatOps.ofBits .f32 0x3DB504F3#32) (cols x0 1792 inb_S1x128x6144_S1x128x256_0_0_1792) (cols x0 2048 inb_S1x128x6144_S1x128x256_0_0_2048))
          (k0_pay24 x1 (cols x0 2304 inb_S1x128x6144_S1x128x256_0_0_2304)) (cols x0 2560 inb_S1x128x6144_S1x128x256_0_0_2560) (cols x0 2816 inb_S1x128x6144_S1x128x256_0_0_2816) (cols x0 3072 inb_S1x128x6144_S1x128x256_0_0_3072))
        (cols x0 3328 inb_S1x128x6144_S1x128x256_0_0_3328) (cols x0 3584 inb_S1x128x6144_S1x128x256_0_0_3584) (cols x0 3840 inb_S1x128x6144_S1x128x256_0_0_3840))
      (k0_pay40 x1 (cols x0 4096 inb_S1x128x6144_S1x128x256_0_0_4096)) (FloatOps.ofBits .f32 0x3DB504F3#32) (cols x0 4352 inb_S1x128x6144_S1x128x256_0_0_4352) (cols x0 4608 inb_S1x128x6144_S1x128x256_0_0_4608))
    (k0_pay48 x1 (cols x0 4864 inb_S1x128x6144_S1x128x256_0_0_4864)) (cols x0 5120 inb_S1x128x6144_S1x128x256_0_0_5120) (cols x0 5376 inb_S1x128x6144_S1x128x256_0_0_5376) (cols x0 5632 inb_S1x128x6144_S1x128x256_0_0_5632)

/-- The largest of `f 0`, …, `f n`, one after another. -/
def foldMax (f : ℕ → EReal) : ℕ → EReal
  | 0 => f 0
  | n + 1 => max (foldMax f n) (f (n + 1))

theorem foldMax_le (f : ℕ → EReal) (b : EReal) : ∀ n : ℕ, foldMax f n ≤ b ↔ ∀ t, t ≤ n → f t ≤ b
  | 0 => ⟨fun h t ht => by rw [Nat.le_zero.mp ht]; exact h, fun h => h 0 le_rfl⟩
  | n + 1 => by
    rw [foldMax, max_le_iff, foldMax_le f b n]
    exact ⟨fun h t ht => by
        rcases Nat.lt_or_eq_of_le ht with h' | h'
        · exact h.1 t (by omega)
        · rw [h']; exact h.2,
      fun h => ⟨fun t ht => h t (by omega), h _ le_rfl⟩⟩

/-- The magnitude of one product at a lane. -/
def lane (r : Fin 128) (c : Fin 256) (o : ℕ)
    (h : ∀ a, (![0, 0, o] : Fin 3 → ℕ) a + (![1, 128, 256] : Fin 3 → ℕ) a ≤ S1x128x6144.size a) : EReal :=
  max (k0_pay2 x1 (cols x0 o h) (ix2 r c)) (-k0_pay2 x1 (cols x0 o h) (ix2 r c))

/-- The magnitude of the transformed block at row `r`, column `256 * t + c`. -/
def mag (r : Fin 128) (c : Fin 256) (t : ℕ) : EReal :=
  max (yAt x0 x1 r ⟨(256 * t + c.val) % 6144, by omega⟩) (-yAt x0 x1 r ⟨(256 * t + c.val) % 6144, by omega⟩)

theorem lane_eq (r : Fin 128) (c : Fin 256) (o t : ℕ) (h) (ht : t < 24) (ho : o = 256 * t) :
    lane x0 x1 r c o h = mag x0 x1 r c t := by
  unfold lane mag
  rw [tile_cols x0 x1 o t h ho r c ⟨(256 * t + c.val) % 6144, by omega⟩ (by show (256 * t + c.val) % 6144 = o + c.val; omega)]

/-- The largest magnitude of a lane over all 24 products. -/
theorem lane_max (r : Fin 128) (c : Fin 256) :
    max (runMax x0 x1 (ix2 r c)) (max (k0_pay57 x1 (cols x0 5888 inb_S1x128x6144_S1x128x256_0_0_5888) (ix2 r c)) (-k0_pay57 x1 (cols x0 5888 inb_S1x128x6144_S1x128x256_0_0_5888) (ix2 r c)))
      = foldMax (mag x0 x1 r c) 23 := by
  refine (show _ = (max (max (max (max (max (max (max (max (max (max (max (max (max (max (max (max (max (max (max (max (max (max (max (lane x0 x1 r c 0 inb_S1x128x6144_S1x128x256_0_0_0)
      (lane x0 x1 r c 256 inb_S1x128x6144_S1x128x256_0_0_256))
      (lane x0 x1 r c 512 inb_S1x128x6144_S1x128x256_0_0_512))
      (lane x0 x1 r c 768 inb_S1x128x6144_S1x128x256_0_0_768))
      (lane x0 x1 r c 1024 inb_S1x128x6144_S1x128x256_0_0_1024))
      (lane x0 x1 r c 1280 inb_S1x128x6144_S1x128x256_0_0_1280))
      (lane x0 x1 r c 1536 inb_S1x128x6144_S1x128x256_0_0_1536))
      (lane x0 x1 r c 1792 inb_S1x128x6144_S1x128x256_0_0_1792))
      (lane x0 x1 r c 2048 inb_S1x128x6144_S1x128x256_0_0_2048))
      (lane x0 x1 r c 2304 inb_S1x128x6144_S1x128x256_0_0_2304))
      (lane x0 x1 r c 2560 inb_S1x128x6144_S1x128x256_0_0_2560))
      (lane x0 x1 r c 2816 inb_S1x128x6144_S1x128x256_0_0_2816))
      (lane x0 x1 r c 3072 inb_S1x128x6144_S1x128x256_0_0_3072))
      (lane x0 x1 r c 3328 inb_S1x128x6144_S1x128x256_0_0_3328))
      (lane x0 x1 r c 3584 inb_S1x128x6144_S1x128x256_0_0_3584))
      (lane x0 x1 r c 3840 inb_S1x128x6144_S1x128x256_0_0_3840))
      (lane x0 x1 r c 4096 inb_S1x128x6144_S1x128x256_0_0_4096))
      (lane x0 x1 r c 4352 inb_S1x128x6144_S1x128x256_0_0_4352))
      (lane x0 x1 r c 4608 inb_S1x128x6144_S1x128x256_0_0_4608))
      (lane x0 x1 r c 4864 inb_S1x128x6144_S1x128x256_0_0_4864))
      (lane x0 x1 r c 5120 inb_S1x128x6144_S1x128x256_0_0_5120))
      (lane x0 x1 r c 5376 inb_S1x128x6144_S1x128x256_0_0_5376))
      (lane x0 x1 r c 5632 inb_S1x128x6144_S1x128x256_0_0_5632))
      (lane x0 x1 r c 5888 inb_S1x128x6144_S1x128x256_0_0_5888)) from rfl).trans ?_
  rw [lane_eq x0 x1 r c 0 0 _ (by omega) rfl, lane_eq x0 x1 r c 256 1 _ (by omega) rfl, lane_eq x0 x1 r c 512 2 _ (by omega) rfl, lane_eq x0 x1 r c 768 3 _ (by omega) rfl, lane_eq x0 x1 r c 1024 4 _ (by omega) rfl, lane_eq x0 x1 r c 1280 5 _ (by omega) rfl, lane_eq x0 x1 r c 1536 6 _ (by omega) rfl, lane_eq x0 x1 r c 1792 7 _ (by omega) rfl, lane_eq x0 x1 r c 2048 8 _ (by omega) rfl, lane_eq x0 x1 r c 2304 9 _ (by omega) rfl, lane_eq x0 x1 r c 2560 10 _ (by omega) rfl, lane_eq x0 x1 r c 2816 11 _ (by omega) rfl, lane_eq x0 x1 r c 3072 12 _ (by omega) rfl, lane_eq x0 x1 r c 3328 13 _ (by omega) rfl, lane_eq x0 x1 r c 3584 14 _ (by omega) rfl, lane_eq x0 x1 r c 3840 15 _ (by omega) rfl, lane_eq x0 x1 r c 4096 16 _ (by omega) rfl, lane_eq x0 x1 r c 4352 17 _ (by omega) rfl, lane_eq x0 x1 r c 4608 18 _ (by omega) rfl, lane_eq x0 x1 r c 4864 19 _ (by omega) rfl, lane_eq x0 x1 r c 5120 20 _ (by omega) rfl, lane_eq x0 x1 r c 5376 21 _ (by omega) rfl, lane_eq x0 x1 r c 5632 22 _ (by omega) rfl, lane_eq x0 x1 r c 5888 23 _ (by omega) rfl]
  rfl

/-- The body's largest magnitude of a row is the largest over all the row's columns. -/
theorem amax_apply (r : Fin 128) (i : Fin 1) : k0_pay59 x1 (runMax x0 x1) (cols x0 5888 inb_S1x128x6144_S1x128x256_0_0_5888) (ix2 r i) = rowMax (yAt x0 x1 r) := by
  have hc : ∀ w : FVec Ideal S128 .f32, shapeCast S128x1 w shapeCasts_S128_S128x1 (ix2 r i) = w (ix1 r) := by
    intro w; pointwise
  unfold k0_pay59
  refine (hc _).trans ?_
  refine (Ideal.multiReduction_maximumf_single _ _ _ _ _ _).trans ?_
  have hf : ∀ c : Fin 256, reduces_S128x256_S128.lift (ix1 r) c = ix2 r c := by
    intro c; funext a
    match a with
    | ⟨0, _⟩ => rfl
    | ⟨1, _⟩ => rfl
  show (Finset.univ : Finset (Fin 256)).fold max (Ideal.ofBits .f32 0xFF800000#32) _ = _
  rw [ofBits_bot]
  refine (show _ = (Finset.univ : Finset (Fin 256)).sup (fun c => foldMax (mag x0 x1 r c) 23) from ?_).trans ?_
  · refine Finset.fold_congr fun c _ => ?_
    refine Eq.trans ?_ (lane_max x0 x1 r c)
    show maximumf (F := Ideal) _ _ (reduces_S128x256_S128.lift (ix1 r) c) = _
    rw [hf]
    rfl
  · refine eq_of_forall_ge_iff fun b => ?_
    rw [rowMax, Finset.sup_le_iff, Finset.sup_le_iff]
    constructor
    · intro h q _
      have h' := (foldMax_le _ b 23).mp (h ⟨q.val % 256, by omega⟩ (Finset.mem_univ _)) (q.val / 256) (by omega)
      have e : (⟨(256 * (q.val / 256) + q.val % 256) % 6144, by omega⟩ : Fin 6144) = q :=
        Fin.ext (by show (256 * (q.val / 256) + q.val % 256) % 6144 = q.val; omega)
      unfold mag at h'
      rw [e] at h'
      exact h'
    · intro h c _
      exact (foldMax_le _ b 23).mpr fun t _ => h _ (Finset.mem_univ _)

/-! ### The scratch array -/

/-- The stores into the scratch array, the last first. -/
def pieces : List (View.Piece (Elt Ideal) S128x6144 .f32) :=
  [⟨Rect.unit ![0, 5888] ![128, 256] inb_S128x6144_S128x256_0_5888, k0_pay58 x1 (cols x0 5888 inb_S1x128x6144_S1x128x256_0_0_5888)⟩,
   ⟨Rect.unit ![0, 5632] ![128, 256] inb_S128x6144_S128x256_0_5632, k0_pay55 x1 (cols x0 5632 inb_S1x128x6144_S1x128x256_0_0_5632)⟩,
   ⟨Rect.unit ![0, 5376] ![128, 256] inb_S128x6144_S128x256_0_5376, k0_pay53 x1 (cols x0 5376 inb_S1x128x6144_S1x128x256_0_0_5376)⟩,
   ⟨Rect.unit ![0, 5120] ![128, 256] inb_S128x6144_S128x256_0_5120, k0_pay51 x1 (cols x0 5120 inb_S1x128x6144_S1x128x256_0_0_5120)⟩,
   ⟨Rect.unit ![0, 4864] ![128, 256] inb_S128x6144_S128x256_0_4864, k0_pay49 (k0_pay48 x1 (cols x0 4864 inb_S1x128x6144_S1x128x256_0_0_4864))⟩,
   ⟨Rect.unit ![0, 4608] ![128, 256] inb_S128x6144_S128x256_0_4608, k0_pay46 x1 (cols x0 4608 inb_S1x128x6144_S1x128x256_0_0_4608)⟩,
   ⟨Rect.unit ![0, 4352] ![128, 256] inb_S128x6144_S128x256_0_4352, k0_pay44 x1 (cols x0 4352 inb_S1x128x6144_S1x128x256_0_0_4352)⟩,
   ⟨Rect.unit ![0, 4096] ![128, 256] inb_S128x6144_S128x256_0_4096, k0_pay42 (k0_pay40 x1 (cols x0 4096 inb_S1x128x6144_S1x128x256_0_0_4096)) (FloatOps.ofBits .f32 0x3DB504F3#32)⟩,
   ⟨Rect.unit ![0, 3840] ![128, 256] inb_S128x6144_S128x256_0_3840, k0_pay38 x1 (cols x0 3840 inb_S1x128x6144_S1x128x256_0_0_3840)⟩,
   ⟨Rect.unit ![0, 3584] ![128, 256] inb_S128x6144_S128x256_0_3584, k0_pay36 x1 (cols x0 3584 inb_S1x128x6144_S1x128x256_0_0_3584)⟩,
   ⟨Rect.unit ![0, 3328] ![128, 256] inb_S128x6144_S128x256_0_3328, k0_pay34 x1 (cols x0 3328 inb_S1x128x6144_S1x128x256_0_0_3328)⟩,
   ⟨Rect.unit ![0, 3072] ![128, 256] inb_S128x6144_S128x256_0_3072, k0_pay31 x1 (cols x0 3072 inb_S1x128x6144_S1x128x256_0_0_3072)⟩,
   ⟨Rect.unit ![0, 2816] ![128, 256] inb_S128x6144_S128x256_0_2816, k0_pay29 x1 (cols x0 2816 inb_S1x128x6144_S1x128x256_0_0_2816)⟩,
   ⟨Rect.unit ![0, 2560] ![128, 256] inb_S128x6144_S128x256_0_2560, k0_pay27 x1 (cols x0 2560 inb_S1x128x6144_S1x128x256_0_0_2560)⟩,
   ⟨Rect.unit ![0, 2304] ![128, 256] inb_S128x6144_S128x256_0_2304, k0_pay25 (k0_pay24 x1 (cols x0 2304 inb_S1x128x6144_S1x128x256_0_0_2304))⟩,
   ⟨Rect.unit ![0, 2048] ![128, 256] inb_S128x6144_S128x256_0_2048, k0_pay22 x1 (cols x0 2048 inb_S1x128x6144_S1x128x256_0_0_2048)⟩,
   ⟨Rect.unit ![0, 1792] ![128, 256] inb_S128x6144_S128x256_0_1792, k0_pay20 x1 (cols x0 1792 inb_S1x128x6144_S1x128x256_0_0_1792)⟩,
   ⟨Rect.unit ![0, 1536] ![128, 256] inb_S128x6144_S128x256_0_1536, k0_pay18 (k0_pay16 x1 (cols x0 1536 inb_S1x128x6144_S1x128x256_0_0_1536)) (FloatOps.ofBits .f32 0x3DB504F3#32)⟩,
   ⟨Rect.unit ![0, 1280] ![128, 256] inb_S128x6144_S128x256_0_1280, k0_pay14 x1 (cols x0 1280 inb_S1x128x6144_S1x128x256_0_0_1280)⟩,
   ⟨Rect.unit ![0, 1024] ![128, 256] inb_S128x6144_S128x256_0_1024, k0_pay12 x1 (cols x0 1024 inb_S1x128x6144_S1x128x256_0_0_1024)⟩,
   ⟨Rect.unit ![0, 768] ![128, 256] inb_S128x6144_S128x256_0_768, k0_pay10 x1 (cols x0 768 inb_S1x128x6144_S1x128x256_0_0_768)⟩,
   ⟨Rect.unit ![0, 512] ![128, 256] inb_S128x6144_S128x256_0_512, k0_pay7 x1 (cols x0 512 inb_S1x128x6144_S1x128x256_0_0_512)⟩,
   ⟨Rect.unit ![0, 256] ![128, 256] inb_S128x6144_S128x256_0_256, k0_pay5 x1 (cols x0 256 inb_S1x128x6144_S1x128x256_0_0_256)⟩,
   ⟨Rect.unit ![0, 0] ![128, 256] inb_S128x6144_S128x256_0_0, k0_pay3 x1 (cols x0 0 inb_S1x128x6144_S1x128x256_0_0_0)⟩]

/-- After the 24 stores the scratch array holds the transformed block. -/
theorem scratch_apply (y : S128x6144.Idx) : View.canon (pieces x0 x1) y = yAt x0 x1 (y 0) (y 1) := by
  have e : ∀ (o t : ℕ) (h) (ho : o = 256 * t) (x : S128x256.Idx) (h0 : (y 0).val = (x 0).val) (h1 : (y 1).val = o + (x 1).val),
      k0_pay2 x1 (cols x0 o h) x = yAt x0 x1 (y 0) (y 1) := by
    intro o t h ho x h0 h1
    have hx : x = ix2 (y 0) (x 1) := by
      rw [eq_ix2 x]; exact congrArg (fun a => ix2 a (x 1)) (Fin.ext h0.symm)
    rw [hx]
    exact tile_cols x0 x1 o t h ho (y 0) (x 1) (y 1) h1
  unfold pieces
  canon_tiles x h
  · exact (congrFun (shapeCast_self _ _) x).trans (e 5888 23 _ rfl x h0 (by omega))
  · exact (congrFun (shapeCast_self _ _) x).trans (e 5632 22 _ rfl x h0 (by omega))
  · exact (congrFun (shapeCast_self _ _) x).trans (e 5376 21 _ rfl x h0 (by omega))
  · exact (congrFun (shapeCast_self _ _) x).trans (e 5120 20 _ rfl x h0 (by omega))
  · exact (congrFun (shapeCast_self _ _) x).trans (e 4864 19 _ rfl x h0 (by omega))
  · exact (congrFun (shapeCast_self _ _) x).trans (e 4608 18 _ rfl x h0 (by omega))
  · exact (congrFun (shapeCast_self _ _) x).trans (e 4352 17 _ rfl x h0 (by omega))
  · exact (congrFun (shapeCast_self _ _) x).trans (e 4096 16 _ rfl x h0 (by omega))
  · exact (congrFun (shapeCast_self _ _) x).trans (e 3840 15 _ rfl x h0 (by omega))
  · exact (congrFun (shapeCast_self _ _) x).trans (e 3584 14 _ rfl x h0 (by omega))
  · exact (congrFun (shapeCast_self _ _) x).trans (e 3328 13 _ rfl x h0 (by omega))
  · exact (congrFun (shapeCast_self _ _) x).trans (e 3072 12 _ rfl x h0 (by omega))
  · exact (congrFun (shapeCast_self _ _) x).trans (e 2816 11 _ rfl x h0 (by omega))
  · exact (congrFun (shapeCast_self _ _) x).trans (e 2560 10 _ rfl x h0 (by omega))
  · exact (congrFun (shapeCast_self _ _) x).trans (e 2304 9 _ rfl x h0 (by omega))
  · exact (congrFun (shapeCast_self _ _) x).trans (e 2048 8 _ rfl x h0 (by omega))
  · exact (congrFun (shapeCast_self _ _) x).trans (e 1792 7 _ rfl x h0 (by omega))
  · exact (congrFun (shapeCast_self _ _) x).trans (e 1536 6 _ rfl x h0 (by omega))
  · exact (congrFun (shapeCast_self _ _) x).trans (e 1280 5 _ rfl x h0 (by omega))
  · exact (congrFun (shapeCast_self _ _) x).trans (e 1024 4 _ rfl x h0 (by omega))
  · exact (congrFun (shapeCast_self _ _) x).trans (e 768 3 _ rfl x h0 (by omega))
  · exact (congrFun (shapeCast_self _ _) x).trans (e 512 2 _ rfl x h0 (by omega))
  · exact (congrFun (shapeCast_self _ _) x).trans (e 256 1 _ rfl x h0 (by omega))
  · exact (congrFun (shapeCast_self _ _) x).trans (e 0 0 _ rfl x h0 (by omega))

/-! ### The two results -/

/-- The body's exponent word, at a row. -/
def expVec : IVec S128x1 32 := k0_pay64 (k0_pay59 x1 (runMax x0 x1) (cols x0 5888 inb_S1x128x6144_S1x128x256_0_0_5888)) (k0_pay60 x1 (runMax x0 x1) (cols x0 5888 inb_S1x128x6144_S1x128x256_0_0_5888))
  (k0_pay61 x1 (runMax x0 x1) (cols x0 5888 inb_S1x128x6144_S1x128x256_0_0_5888)) (k0_pay62 x1 (runMax x0 x1) (cols x0 5888 inb_S1x128x6144_S1x128x256_0_0_5888))
  (k0_pay63 x1 (runMax x0 x1) (cols x0 5888 inb_S1x128x6144_S1x128x256_0_0_5888))

theorem pay60_apply (y : S128x1.Idx) : k0_pay60 x1 (runMax x0 x1) (cols x0 5888 inb_S1x128x6144_S1x128x256_0_0_5888) y = k0_pay59 x1 (runMax x0 x1) (cols x0 5888 inb_S1x128x6144_S1x128x256_0_0_5888) y * invMax := rfl

theorem pay61_apply (y : S128x1.Idx) : k0_pay61 x1 (runMax x0 x1) (cols x0 5888 inb_S1x128x6144_S1x128x256_0_0_5888) y = raised (k0_pay60 x1 (runMax x0 x1) (cols x0 5888 inb_S1x128x6144_S1x128x256_0_0_5888) y) := by
  unfold k0_pay61
  generalize k0_pay60 x1 (runMax x0 x1) (cols x0 5888 inb_S1x128x6144_S1x128x256_0_0_5888) = t
  unfold raised pow2 estimate
  rfl

theorem pay62_apply (y : S128x1.Idx) : k0_pay62 x1 (runMax x0 x1) (cols x0 5888 inb_S1x128x6144_S1x128x256_0_0_5888) y = k0_pay61 x1 (runMax x0 x1) (cols x0 5888 inb_S1x128x6144_S1x128x256_0_0_5888) y - Ideal.ofBits .f32 0x3F800000#32 := rfl

theorem pay63_apply (y : S128x1.Idx) : k0_pay63 x1 (runMax x0 x1) (cols x0 5888 inb_S1x128x6144_S1x128x256_0_0_5888) y = IntOp.addi (Ideal.fptosi 32 (k0_pay62 x1 (runMax x0 x1) (cols x0 5888 inb_S1x128x6144_S1x128x256_0_0_5888) y)) 127#32 := rfl

/-- The last part of the exponent's chain, at a row. -/
theorem pay64_apply (a t e w : FVec Ideal S128x1 .f32) (d : IVec S128x1 32) (y : S128x1.Idx)
    (he : e y = raised (t y)) (hw : w y = e y - Ideal.ofBits .f32 0x3F800000#32)
    (hd : d y = IntOp.addi (Ideal.fptosi 32 (w y)) 127#32) : k0_pay64 a t e w d y = expWord lowered (a y) (t y) := by
  have hp : pow2 (e y - Ideal.ofBits .f32 0x3F800000#32)
      = Scalar.select (IntOp.andi (Ideal.cmp .oge (w y) (Ideal.ofBits .f32 0xC2FC0000#32)) (Ideal.cmp .ole (w y) (Ideal.ofBits .f32 0x42FE0000#32)))
        (Ideal.ofBits .f32 (IntOp.shli .vector (d y) 23#32)) (Ideal.exp2 (w y)) := by
    rw [← hw, hd]; rfl
  unfold expWord lowered
  rw [← he, hp]
  rfl

theorem expVec_apply (r : Fin 128) (i : Fin 1) : expVec x0 x1 (ix2 r i) = rowExp (yAt x0 x1 r) := by
  unfold expVec rowExp
  rw [pay64_apply _ _ _ _ _ _ (pay61_apply x0 x1 _) (pay62_apply x0 x1 _) (pay63_apply x0 x1 _), expWord_lowered, pay60_apply,
    amax_apply]

theorem out_scale (c : Dev nD) (i : grid0.Coords) (arg2 : Memref sig .tc .vmem S1x128x6144 .bf16) (harg2 : arg2.IsWhole)
    (arg3 : Memref sig .tc .vmem S256x256 .bf16) (harg3 : arg3.IsWhole) (arg4 : Memref sig .tc .vmem S1x128x1 .f32)
    (harg4 : arg4.IsWhole) (arg5 : Memref sig .tc .vmem S1x128x6144 .fp8e4m3) (harg5 : arg5.IsWhole)
    (arg6 : Memref sig .tc .vmem S128x6144 .f32) (harg6 : arg6.IsWhole) :
    out0_A_2 c i arg2 harg2 arg3 harg3 arg4 harg4 arg5 harg5 arg6 harg6 x0 x1
      = k0_pay65 (k0_pay59 x1 (runMax x0 x1) (cols x0 5888 inb_S1x128x6144_S1x128x256_0_0_5888)) (k0_pay60 x1 (runMax x0 x1) (cols x0 5888 inb_S1x128x6144_S1x128x256_0_0_5888))
          (k0_pay61 x1 (runMax x0 x1) (cols x0 5888 inb_S1x128x6144_S1x128x256_0_0_5888)) (k0_pay62 x1 (runMax x0 x1) (cols x0 5888 inb_S1x128x6144_S1x128x256_0_0_5888))
          (k0_pay63 x1 (runMax x0 x1) (cols x0 5888 inb_S1x128x6144_S1x128x256_0_0_5888)) := by
  frame_out
  rfl

/-- The block of scales that a grid point leaves. -/
theorem out_scale_apply (c : Dev nD) (i : grid0.Coords) (arg2 : Memref sig .tc .vmem S1x128x6144 .bf16) (harg2 : arg2.IsWhole)
    (arg3 : Memref sig .tc .vmem S256x256 .bf16) (harg3 : arg3.IsWhole) (arg4 : Memref sig .tc .vmem S1x128x1 .f32)
    (harg4 : arg4.IsWhole) (arg5 : Memref sig .tc .vmem S1x128x6144 .fp8e4m3) (harg5 : arg5.IsWhole)
    (arg6 : Memref sig .tc .vmem S128x6144 .f32) (harg6 : arg6.IsWhole) (y : S1x128x1.Idx) :
    out0_A_2 c i arg2 harg2 arg3 harg3 arg4 harg4 arg5 harg5 arg6 harg6 x0 x1 y = rowScale (yAt x0 x1 (y 1)) := by
  rw [out_scale]
  have hc : ∀ w : FVec Ideal S128x1 .f32, shapeCast S1x128x1 w shapeCasts_S128x1_S1x128x1 y = w (ix2 (y 1) 0) := by
    intro w; pointwise
  unfold k0_pay65
  refine (hc _).trans ?_
  refine (show _ = pow2 (ofInt (expVec x0 x1 (ix2 (y 1) 0)).toInt) from rfl).trans ?_
  rw [show expVec x0 x1 (ix2 (y 1) 0) = rowExp (yAt x0 x1 (y 1)) from expVec_apply x0 x1 (y 1) 0, pow2_word_eq]
  rfl

theorem out_codes (c : Dev nD) (i : grid0.Coords) (arg2 : Memref sig .tc .vmem S1x128x6144 .bf16) (harg2 : arg2.IsWhole)
    (arg3 : Memref sig .tc .vmem S256x256 .bf16) (harg3 : arg3.IsWhole) (arg4 : Memref sig .tc .vmem S1x128x1 .f32)
    (harg4 : arg4.IsWhole) (arg5 : Memref sig .tc .vmem S1x128x6144 .fp8e4m3) (harg5 : arg5.IsWhole)
    (arg6 : Memref sig .tc .vmem S128x6144 .f32) (harg6 : arg6.IsWhole) :
    out0_A_3 c i arg2 harg2 arg3 harg3 arg4 harg4 arg5 harg5 arg6 harg6 x0 x1
      = k0_pay1 (expVec x0 x1) (arg6.view.readCov (pieces x0 x1)
          (Rect.unit ![0, 0] ![128, 6144] inb_S128x6144_S128x6144_0_0).toLoadRect) := by
  frame_out
  rfl

/-- The scratch array read whole. -/
theorem scratch_read (arg6 : Memref sig .tc .vmem S128x6144 .f32) (y : S128x6144.Idx) :
    arg6.view.readCov (pieces x0 x1) (Rect.unit (s := S128x6144) ![0, 0] ![128, 6144] inb_S128x6144_S128x6144_0_0).toLoadRect y
      = yAt x0 x1 (y 0) (y 1) := by
  rw [View.readCov_eq_canon_ld]
  · rw [View.ld_unit_lit]
    · exact scratch_apply x0 x1 y
    · decide
  · exact fun y => View.cover_of_tiledL (pieces x0 x1) ![128, 256] (by sl_kernel_rfl) y

/-- The block of codes that a grid point leaves. -/
theorem out_codes_apply (c : Dev nD) (i : grid0.Coords) (arg2 : Memref sig .tc .vmem S1x128x6144 .bf16) (harg2 : arg2.IsWhole)
    (arg3 : Memref sig .tc .vmem S256x256 .bf16) (harg3 : arg3.IsWhole) (arg4 : Memref sig .tc .vmem S1x128x1 .f32)
    (harg4 : arg4.IsWhole) (arg5 : Memref sig .tc .vmem S1x128x6144 .fp8e4m3) (harg5 : arg5.IsWhole)
    (arg6 : Memref sig .tc .vmem S128x6144 .f32) (harg6 : arg6.IsWhole) (y : S1x128x6144.Idx) :
    out0_A_3 c i arg2 harg2 arg3 harg3 arg4 harg4 arg5 harg5 arg6 harg6 x0 x1 y = clipped (yAt x0 x1 (y 1)) (y 2) := by
  rw [out_codes]
  have hc : ∀ w : FVec Ideal S128x6144 .fp8e4m3, shapeCast S1x128x6144 w shapeCasts_S128x6144_S1x128x6144 y
      = w (ix2 (y 1) (y 2)) := by
    intro w; pointwise
  unfold k0_pay1
  refine (hc _).trans ?_
  have hs := scratch_read x0 x1 arg6 (ix2 (y 1) (y 2))
  have he : broadcastTo S128x6144 (expVec x0 x1) broadcasts_S128x1_S128x6144 (ix2 (y 1) (y 2)) = rowExp (yAt x0 x1 (y 1)) := by
    refine Eq.trans ?_ (expVec_apply x0 x1 (y 1) 0)
    pointwise
  unfold clipped
  rw [← pow2_word_eq, ← he, ← BitVec.zero_sub]
  refine Eq.trans ?_ (congrArg (fun z => min (Ideal.ofBits .f32 0x43E00000#32) (max (Ideal.ofBits .f32 0xC3E00000#32)
    (z * pow2 (ofInt (0#32 - broadcastTo S128x6144 (expVec x0 x1) broadcasts_S128x1_S128x6144 (ix2 (y 1) (y 2))).toInt)))) hs)
  rfl

end HadamardQuant

end
-- ==== Proof.KernelArrays.lean ====
/- What the kernel's two result arrays hold after its run, over the extended reals: row by row, the scale and the codes of
   that row of the argument times the transform's matrix. -/
module

public import proofs.«01_k».proof.Proof.Block

@[expose] public section

set_option maxRecDepth 16384

noncomputable section

namespace HadamardQuant

open Idealize.ShloMosaic Idealize.ShloMosaic.TcCoe Idealize.SL.Sem
open Cert.KernelIdeal Cert.KernelIdeal.Gen

variable (m : (ℓ : Loc nD τ sig) → Buf (Elt Ideal) ℓ)

/-- The kernel's matrix: the table of constants it is launched with. -/
def kernelMatrix (k c : Fin 256) : EReal := Ideal.ofBits .bf16 (lit0 (S256x256.rowMajor (ix2 k c)))

/-- Row `(b, s)` of the argument times the matrix. -/
def kernelRow (c : Dev nD) (b : Fin 3) (s : Fin 768) : Fin 6144 → EReal :=
  product (fun k => (m ((c : Thread nD τ).loc main_arg0) : S3x768x6144.Idx → EReal) (ix3 b s k)) kernelMatrix

theorem idx0 : ∀ t : Fin grid0.N, win0_0.index t = ![t.val / 6, t.val % 6, 0] ∧ win0_1.index t = ![0, 0]
    ∧ win0_2.index t = ![t.val / 6, t.val % 6, 0] ∧ win0_3.index t = ![t.val / 6, t.val % 6, 0] := by decide +kernel

theorem V_matrix (c : Dev nD) (k q : Fin 256) : (V m c main_cst : S256x256.Idx → EReal) (ix2 k q) = kernelMatrix k q := by
  rw [V, StableHlo.after_cons, StableHlo.after_nil, StableHlo.nullary_result]
  rfl

/-- The block of the argument that grid point `t` reads. -/
theorem block_arg (c : Dev nD) (t : Fin cfg0.N) (r : Fin 128) (k : Fin 6144) :
    iblk m c 0 t (ix3 0 r k) = (m ((c : Thread nD τ).loc main_arg0) : S3x768x6144.Idx → EReal)
      (ix3 ⟨t.val / 6, by have := t.isLt; have h : cfg0.N = 18 := N_0; omega⟩ ⟨128 * (t.val % 6) + r.val, by omega⟩ k) := by
  rw [← V_main_arg0 m c]
  blk_ext [iblk, idx0 t]

/-- The matrix as grid point `t` reads it. -/
theorem block_matrix (c : Dev nD) (t : Fin cfg0.N) (k q : Fin 256) : iblk m c 1 t (ix2 k q) = kernelMatrix k q := by
  rw [← V_matrix m c]
  blk_ext [iblk, idx0 t]

/-- Row `r` of what grid point `t` transforms is a row of the argument times the matrix. -/
theorem yAt_block (c : Dev nD) (t : Fin cfg0.N) (r : Fin 128) :
    yAt (iblk m c 0 t) (iblk m c 1 t) r
      = kernelRow m c ⟨t.val / 6, by have := t.isLt; have h : cfg0.N = 18 := N_0; omega⟩ ⟨128 * (t.val % 6) + r.val, by omega⟩ := by
  unfold yAt kernelRow
  exact congrArg₂ product (funext fun k => block_arg m c t r k) (funext fun k => funext fun q => block_matrix m c t k q)

theorem t_lt (t : Fin cfg0.N) : t.val / 6 < 3 := by have := t.isLt; have h : cfg0.N = 18 := N_0; omega

theorem row_lt (t : Fin cfg0.N) (r : Fin 128) : 128 * (t.val % 6) + r.val < 768 := by omega

/-- The block of scale that grid point `t` leaves. -/
theorem after_scale (c : Dev nD) (t : Fin cfg0.N) :
    (dats m 0 c).after 2 t = fun y : S1x128x1.Idx => rowScale (kernelRow m c ⟨t.val / 6, t_lt t⟩
      ⟨128 * (t.val % 6) + (y 1).val, row_lt t (y 1)⟩) := by
  rw [after0_2]
  refine (show _ = out0_A_2 c (grid0.coords t) (ms0_0 t) (hs0_0 t) (ms0_1 t) (hs0_1 t) (ms0_2 t) (hs0_2 t) (ms0_3 t)
    (hs0_3 t) scM0_0 (Memref.isWhole_whole _) (iblk m c 0 t) (iblk m c 1 t) from rfl).trans ?_
  funext y
  rw [out_scale_apply]
  exact congrArg rowScale (yAt_block m c t (y 1))

/-- The array of scale after the run. -/
theorem array_scale (c : Dev nD) :
    (dats m 0 c).arrAt 2 cfg0.N = fun i : S3x768x1.Idx => rowScale (kernelRow m c (i 0) (i 1)) := by
  refine (dats m 0 c).arrAt_eq_of_covers 2 _ (by decide +kernel) fun t hf (y : S1x128x1.Idx) => ?_
  have hlt := row_lt t (y 1)
  have h0 : ((((cfg0.win 2).blk t).view.emb y) 0 : Fin 3) = ⟨t.val / 6, t_lt t⟩ := by
    apply Fin.ext; blk_simp [idx0 t]
  have h1 : ((((cfg0.win 2).blk t).view.emb y) 1 : Fin 768) = ⟨128 * (t.val % 6) + (y 1).val, hlt⟩ := by
    apply Fin.ext; blk_simp [idx0 t]; exact congrArg (· + _) (Nat.mul_comm _ _)
  refine Eq.trans ?_ (congrArg₂ (fun b s => rowScale (kernelRow m c b s)) h0 h1).symm
  rw [after_scale]
  rfl

/-- The block of codes that grid point `t` leaves. -/
theorem after_codes (c : Dev nD) (t : Fin cfg0.N) :
    (dats m 0 c).after 3 t = fun y : S1x128x6144.Idx => clipped (kernelRow m c ⟨t.val / 6, t_lt t⟩
      ⟨128 * (t.val % 6) + (y 1).val, row_lt t (y 1)⟩) (y 2) := by
  rw [after0_3]
  refine (show _ = out0_A_3 c (grid0.coords t) (ms0_0 t) (hs0_0 t) (ms0_1 t) (hs0_1 t) (ms0_2 t) (hs0_2 t) (ms0_3 t)
    (hs0_3 t) scM0_0 (Memref.isWhole_whole _) (iblk m c 0 t) (iblk m c 1 t) from by simp only [outsAt0]).trans ?_
  funext y
  rw [out_codes_apply]
  exact congrArg (fun z => clipped z (y 2)) (yAt_block m c t (y 1))

/-- The array of codes after the run. -/
theorem array_codes (c : Dev nD) :
    (dats m 0 c).arrAt 3 cfg0.N = fun i : S3x768x6144.Idx => clipped (kernelRow m c (i 0) (i 1)) (i 2) := by
  refine (dats m 0 c).arrAt_eq_of_covers 3 _ (by decide +kernel) fun t hf (y : S1x128x6144.Idx) => ?_
  have hlt := row_lt t (y 1)
  have h0 : ((((cfg0.win 3).blk t).view.emb y) 0 : Fin 3) = ⟨t.val / 6, t_lt t⟩ := by
    apply Fin.ext; blk_simp [idx0 t]
  have h1 : ((((cfg0.win 3).blk t).view.emb y) 1 : Fin 768) = ⟨128 * (t.val % 6) + (y 1).val, hlt⟩ := by
    apply Fin.ext; blk_simp [idx0 t]; exact congrArg (· + _) (Nat.mul_comm _ _)
  have h2 : ((((cfg0.win 3).blk t).view.emb y) 2 : Fin 6144) = y 2 := by
    apply Fin.ext; blk_simp [idx0 t]
  refine Eq.trans ?_ (congr (congrArg₂ (fun b s => clipped (kernelRow m c b s)) h0 h1) h2).symm
  rw [after_codes]
  rfl

end HadamardQuant

end
-- ==== Proof.ReferenceRead.lean ====
/- The reference's operations one at a time: `host_vN` is what the operation writing `main_vN` gives, as a function of the
   argument, and `host_vN_apply` reads it at an index. -/
module

public import proofs.«01_k».proof.Proof.Gen.ReferenceIdeal.Frame
public import Idealize.ShloMosaic.Lib.Pipeline.Value
public import Idealize.ShloMosaic.Lib.ValueIdx
public import Idealize.ShloMosaic.PureOps.Ideal.Laws
public import Idealize.ShloMosaic.Lib.StableHlo.Run

@[expose] public section

noncomputable section

namespace HadamardQuant

open Cert.ReferenceIdeal Cert.ReferenceIdeal.Gen Idealize.ShloMosaic Idealize.ShloMosaic.TcCoe Idealize.SL.Sem Idealize.ShloMosaic.StableHlo

variable {F : FTy → Type} [FloatOps F]

def host_v0 (x0 : (⟨S3x768x6144, .bf16⟩ : BufTy).Contents (Elt F)) : (⟨S3x768x48x128, .bf16⟩ : BufTy).Contents (Elt F) :=
  shapeCast _ (x0) shapeCasts_S3x768x6144_S3x768x48x128
set_option backward.proofsInPublic true in
abbrev at_v0 (i : S3x768x48x128.Idx) : S3x768x6144.Idx := fun a => match a with
  | ⟨0, _⟩ => ⟨((((i 0).val * 768 + (i 1).val) * 48 + (i 2).val) * 128 + (i 3).val) / 4718592, by have h0 : (i 0).val < 3 := (i 0).isLt; have h1 : (i 1).val < 768 := (i 1).isLt; have h2 : (i 2).val < 48 := (i 2).isLt; have h3 : (i 3).val < 128 := (i 3).isLt; show ((((i 0).val * 768 + (i 1).val) * 48 + (i 2).val) * 128 + (i 3).val) / 4718592 < 3; omega⟩
  | ⟨1, _⟩ => ⟨((((i 0).val * 768 + (i 1).val) * 48 + (i 2).val) * 128 + (i 3).val) / 6144 % 768, by have h0 : (i 0).val < 3 := (i 0).isLt; have h1 : (i 1).val < 768 := (i 1).isLt; have h2 : (i 2).val < 48 := (i 2).isLt; have h3 : (i 3).val < 128 := (i 3).isLt; show ((((i 0).val * 768 + (i 1).val) * 48 + (i 2).val) * 128 + (i 3).val) / 6144 % 768 < 768; omega⟩
  | ⟨2, _⟩ => ⟨((((i 0).val * 768 + (i 1).val) * 48 + (i 2).val) * 128 + (i 3).val) % 6144, by have h0 : (i 0).val < 3 := (i 0).isLt; have h1 : (i 1).val < 768 := (i 1).isLt; have h2 : (i 2).val < 48 := (i 2).isLt; have h3 : (i 3).val < 128 := (i 3).isLt; show ((((i 0).val * 768 + (i 1).val) * 48 + (i 2).val) * 128 + (i 3).val) % 6144 < 6144; omega⟩
theorem host_v0_apply (x0 : (⟨S3x768x6144, .bf16⟩ : BufTy).Contents (Elt F)) (i : S3x768x48x128.Idx) :
    host_v0 (F := F) x0 i = x0 (at_v0 i) := by
  unfold host_v0
  exact shapeCast_apply x0 shapeCasts_S3x768x6144_S3x768x48x128 i (at_v0 i)
    (by rewrite [Shape.rowMajor_val_three, Shape.rowMajor_val_four]; have h0 : (i 0).val < 3 := (i 0).isLt; have h1 : (i 1).val < 768 := (i 1).isLt; have h2 : (i 2).val < 48 := (i 2).isLt; have h3 : (i 3).val < 128 := (i 3).isLt; show (((((i 0).val * 768 + (i 1).val) * 48 + (i 2).val) * 128 + (i 3).val) / 4718592 * 768 + ((((i 0).val * 768 + (i 1).val) * 48 + (i 2).val) * 128 + (i 3).val) / 6144 % 768) * 6144 + ((((i 0).val * 768 + (i 1).val) * 48 + (i 2).val) * 128 + (i 3).val) % 6144 = (((i 0).val * 768 + (i 1).val) * 48 + (i 2).val) * 128 + (i 3).val; omega)

/-- The reference's matrix: its table of constants. -/
def host_matrix : (⟨S128x128, .bf16⟩ : BufTy).Contents (Elt F) := fun i => FloatOps.ofBits .bf16 (lit0 (S128x128.rowMajor i))

def host_v1 (x0 : (⟨S3x768x6144, .bf16⟩ : BufTy).Contents (Elt F)) : (⟨S3x768x48x128, .f32⟩ : BufTy).Contents (Elt F) :=
  Host.dotGeneral dot_S3x768x48x128_S128x128_S3x768x48x128_3_0_012_1_n_n none (host_v0 (F := F) x0) (host_matrix (F := F))
theorem lhs_main_v1_0 (i : S3x768x48x128.Idx) (q : dot_S3x768x48x128_S128x128_S3x768x48x128_3_0_012_1_n_n.contr.Idx) :
    (dot_S3x768x48x128_S128x128_S3x768x48x128_3_0_012_1_n_n.lhsIdx i q 0).val = (i 0).val := by
  unfold DotDims.lhsIdx
  rw [dif_neg (show ¬(0 : Fin S3x768x48x128.rank) ∈ dot_S3x768x48x128_S128x128_S3x768x48x128_3_0_012_1_n_n.lhsBatch by decide), dif_pos (show (0 : Fin S3x768x48x128.rank) ∈ dot_S3x768x48x128_S128x128_S3x768x48x128_3_0_012_1_n_n.lhsNonContracting by decide)]
  rfl
theorem lhs_main_v1_1 (i : S3x768x48x128.Idx) (q : dot_S3x768x48x128_S128x128_S3x768x48x128_3_0_012_1_n_n.contr.Idx) :
    (dot_S3x768x48x128_S128x128_S3x768x48x128_3_0_012_1_n_n.lhsIdx i q 1).val = (i 1).val := by
  unfold DotDims.lhsIdx
  rw [dif_neg (show ¬(1 : Fin S3x768x48x128.rank) ∈ dot_S3x768x48x128_S128x128_S3x768x48x128_3_0_012_1_n_n.lhsBatch by decide), dif_pos (show (1 : Fin S3x768x48x128.rank) ∈ dot_S3x768x48x128_S128x128_S3x768x48x128_3_0_012_1_n_n.lhsNonContracting by decide)]
  rfl
theorem lhs_main_v1_2 (i : S3x768x48x128.Idx) (q : dot_S3x768x48x128_S128x128_S3x768x48x128_3_0_012_1_n_n.contr.Idx) :
    (dot_S3x768x48x128_S128x128_S3x768x48x128_3_0_012_1_n_n.lhsIdx i q 2).val = (i 2).val := by
  unfold DotDims.lhsIdx
  rw [dif_neg (show ¬(2 : Fin S3x768x48x128.rank) ∈ dot_S3x768x48x128_S128x128_S3x768x48x128_3_0_012_1_n_n.lhsBatch by decide), dif_pos (show (2 : Fin S3x768x48x128.rank) ∈ dot_S3x768x48x128_S128x128_S3x768x48x128_3_0_012_1_n_n.lhsNonContracting by decide)]
  rfl
theorem lhs_main_v1_3 (i : S3x768x48x128.Idx) (q : dot_S3x768x48x128_S128x128_S3x768x48x128_3_0_012_1_n_n.contr.Idx) :
    (dot_S3x768x48x128_S128x128_S3x768x48x128_3_0_012_1_n_n.lhsIdx i q 3).val = (q ⟨0, by decide⟩).val :=
  dot_S3x768x48x128_S128x128_S3x768x48x128_3_0_012_1_n_n.lhsIdx_val_of_single rfl i q
theorem rhs_main_v1_0 (i : S3x768x48x128.Idx) (q : dot_S3x768x48x128_S128x128_S3x768x48x128_3_0_012_1_n_n.contr.Idx) :
    (dot_S3x768x48x128_S128x128_S3x768x48x128_3_0_012_1_n_n.rhsIdx i q 0).val = (q ⟨0, by decide⟩).val :=
  dot_S3x768x48x128_S128x128_S3x768x48x128_3_0_012_1_n_n.rhsIdx_val_of_single rfl i q
theorem rhs_main_v1_1 (i : S3x768x48x128.Idx) (q : dot_S3x768x48x128_S128x128_S3x768x48x128_3_0_012_1_n_n.contr.Idx) :
    (dot_S3x768x48x128_S128x128_S3x768x48x128_3_0_012_1_n_n.rhsIdx i q 1).val = (i 3).val := by
  unfold DotDims.rhsIdx
  rw [dif_neg (show ¬(1 : Fin S128x128.rank) ∈ dot_S3x768x48x128_S128x128_S3x768x48x128_3_0_012_1_n_n.rhsBatch by decide), dif_pos (show (1 : Fin S128x128.rank) ∈ dot_S3x768x48x128_S128x128_S3x768x48x128_3_0_012_1_n_n.rhsNonContracting by decide)]
  rfl
abbrev left_v1 (i : S3x768x48x128.Idx) (k : Fin 128) : S3x768x48x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev right_v1 (i : S3x768x48x128.Idx) (k : Fin 128) : S128x128.Idx := fun a => match a with
  | ⟨0, _⟩ => ⟨k.val, k.isLt⟩
  | ⟨1, _⟩ => ⟨(i 3).val, (i 3).isLt⟩
/-- Stated at `F := Ideal`, where the host's `dot_general` is this sum. -/
theorem host_v1_apply (x0 : (⟨S3x768x6144, .bf16⟩ : BufTy).Contents (Elt Ideal)) (i : S3x768x48x128.Idx) :
    host_v1 (F := Ideal) x0 i = ∑ k : Fin 128, (host_v0 (F := Ideal) x0) (left_v1 i k) * (host_matrix (F := Ideal)) (right_v1 i k) := by
  unfold host_v1
  generalize host_v0 (F := Ideal) x0 = y0
  generalize host_matrix (F := Ideal) = y1
  simp only [Host.dotGeneral]
  rw [Ideal.dotGeneral_apply, ← Equiv.sum_comp (ValueIdx.contrEquiv1 dot_S3x768x48x128_S128x128_S3x768x48x128_3_0_012_1_n_n 128 rfl rfl).symm]
  refine Finset.sum_congr rfl fun k _ => ?_
  have hk := ValueIdx.contrEquiv1_symm_val dot_S3x768x48x128_S128x128_S3x768x48x128_3_0_012_1_n_n 128 rfl rfl k
  have el : dot_S3x768x48x128_S128x128_S3x768x48x128_3_0_012_1_n_n.lhsIdx i ((ValueIdx.contrEquiv1 dot_S3x768x48x128_S128x128_S3x768x48x128_3_0_012_1_n_n 128 rfl rfl).symm k) = left_v1 i k := funext fun a => Fin.ext (by
    match a with
    | ⟨0, _⟩ => exact lhs_main_v1_0 _ _
    | ⟨1, _⟩ => exact lhs_main_v1_1 _ _
    | ⟨2, _⟩ => exact lhs_main_v1_2 _ _
    | ⟨3, _⟩ => exact (lhs_main_v1_3 _ _).trans hk)
  have er : dot_S3x768x48x128_S128x128_S3x768x48x128_3_0_012_1_n_n.rhsIdx i ((ValueIdx.contrEquiv1 dot_S3x768x48x128_S128x128_S3x768x48x128_3_0_012_1_n_n 128 rfl rfl).symm k) = right_v1 i k := funext fun a => Fin.ext (by
    match a with
    | ⟨0, _⟩ => exact (rhs_main_v1_0 _ _).trans hk
    | ⟨1, _⟩ => exact rhs_main_v1_1 _ _)
  rw [el, er]

def host_cst_0 : (⟨S_, .f32⟩ : BufTy).Contents (Elt F) :=
  constant S_ .f32 0x3DB504F3#32
theorem host_cst_0_apply (i : S_.Idx) :
    host_cst_0 (F := F) i = FloatOps.ofBits .f32 0x3DB504F3#32 := rfl

def host_v2 : (⟨S3x768x48x128, .f32⟩ : BufTy).Contents (Elt F) :=
  broadcastInDim S3x768x48x128 ![] bcast_S_S3x768x48x128 (host_cst_0 (F := F))
abbrev at_v2 (i : S3x768x48x128.Idx) : S_.Idx := fun a => a.elim0
theorem host_v2_apply (i : S3x768x48x128.Idx) :
    host_v2 (F := F) i = host_cst_0 (F := F) (at_v2 i) := by
  unfold host_v2
  generalize host_cst_0 (F := F) = y
  exact broadcastInDim_apply _ bcast_S_S3x768x48x128 y i (at_v2 i) (fun a => a.elim0)

def host_v3 (x0 : (⟨S3x768x6144, .bf16⟩ : BufTy).Contents (Elt F)) : (⟨S3x768x48x128, .f32⟩ : BufTy).Contents (Elt F) :=
  mulf (host_v1 (F := F) x0) (host_v2 (F := F))
theorem host_v3_apply (x0 : (⟨S3x768x6144, .bf16⟩ : BufTy).Contents (Elt F)) (i : S3x768x48x128.Idx) :
    host_v3 (F := F) x0 i = FloatOps.mulf (host_v1 (F := F) x0 i) (host_v2 (F := F) i) := rfl

def host_v4 (x0 : (⟨S3x768x6144, .bf16⟩ : BufTy).Contents (Elt F)) : (⟨S3x768x6144, .f32⟩ : BufTy).Contents (Elt F) :=
  shapeCast _ (host_v3 (F := F) x0) shapeCasts_S3x768x48x128_S3x768x6144
set_option backward.proofsInPublic true in
abbrev at_v4 (i : S3x768x6144.Idx) : S3x768x48x128.Idx := fun a => match a with
  | ⟨0, _⟩ => ⟨(((i 0).val * 768 + (i 1).val) * 6144 + (i 2).val) / 4718592, by have h0 : (i 0).val < 3 := (i 0).isLt; have h1 : (i 1).val < 768 := (i 1).isLt; have h2 : (i 2).val < 6144 := (i 2).isLt; show (((i 0).val * 768 + (i 1).val) * 6144 + (i 2).val) / 4718592 < 3; omega⟩
  | ⟨1, _⟩ => ⟨(((i 0).val * 768 + (i 1).val) * 6144 + (i 2).val) / 6144 % 768, by have h0 : (i 0).val < 3 := (i 0).isLt; have h1 : (i 1).val < 768 := (i 1).isLt; have h2 : (i 2).val < 6144 := (i 2).isLt; show (((i 0).val * 768 + (i 1).val) * 6144 + (i 2).val) / 6144 % 768 < 768; omega⟩
  | ⟨2, _⟩ => ⟨(((i 0).val * 768 + (i 1).val) * 6144 + (i 2).val) / 128 % 48, by have h0 : (i 0).val < 3 := (i 0).isLt; have h1 : (i 1).val < 768 := (i 1).isLt; have h2 : (i 2).val < 6144 := (i 2).isLt; show (((i 0).val * 768 + (i 1).val) * 6144 + (i 2).val) / 128 % 48 < 48; omega⟩
  | ⟨3, _⟩ => ⟨(((i 0).val * 768 + (i 1).val) * 6144 + (i 2).val) % 128, by have h0 : (i 0).val < 3 := (i 0).isLt; have h1 : (i 1).val < 768 := (i 1).isLt; have h2 : (i 2).val < 6144 := (i 2).isLt; show (((i 0).val * 768 + (i 1).val) * 6144 + (i 2).val) % 128 < 128; omega⟩
theorem host_v4_apply (x0 : (⟨S3x768x6144, .bf16⟩ : BufTy).Contents (Elt F)) (i : S3x768x6144.Idx) :
    host_v4 (F := F) x0 i = host_v3 (F := F) x0 (at_v4 i) := by
  unfold host_v4
  generalize host_v3 (F := F) x0 = y
  exact shapeCast_apply y shapeCasts_S3x768x48x128_S3x768x6144 i (at_v4 i)
    (by rewrite [Shape.rowMajor_val_four, Shape.rowMajor_val_three]; have h0 : (i 0).val < 3 := (i 0).isLt; have h1 : (i 1).val < 768 := (i 1).isLt; have h2 : (i 2).val < 6144 := (i 2).isLt; show (((((i 0).val * 768 + (i 1).val) * 6144 + (i 2).val) / 4718592 * 768 + (((i 0).val * 768 + (i 1).val) * 6144 + (i 2).val) / 6144 % 768) * 48 + (((i 0).val * 768 + (i 1).val) * 6144 + (i 2).val) / 128 % 48) * 128 + (((i 0).val * 768 + (i 1).val) * 6144 + (i 2).val) % 128 = ((i 0).val * 768 + (i 1).val) * 6144 + (i 2).val; omega)

def host_v5 (x0 : (⟨S3x768x6144, .bf16⟩ : BufTy).Contents (Elt F)) : (⟨S3x768x6144, .f32⟩ : BufTy).Contents (Elt F) :=
  Host.absf (host_v4 (F := F) x0)
theorem host_v5_apply (x0 : (⟨S3x768x6144, .bf16⟩ : BufTy).Contents (Elt F)) (i : S3x768x6144.Idx) :
    host_v5 (F := F) x0 i = FloatOps.hostAbsf (host_v4 (F := F) x0 i) := rfl

def host_cst_1 : (⟨S_, .f32⟩ : BufTy).Contents (Elt F) :=
  constant S_ .f32 0xFF800000#32
theorem host_cst_1_apply (i : S_.Idx) :
    host_cst_1 (F := F) i = FloatOps.ofBits .f32 0xFF800000#32 := rfl

def host_v6 (x0 : (⟨S3x768x6144, .bf16⟩ : BufTy).Contents (Elt F)) : (⟨S3x768, .f32⟩ : BufTy).Contents (Elt F) :=
  Host.reduce FloatOps.maximumf (host_v5 (F := F) x0) (host_cst_1 (F := F)) reducesTo_S3x768x6144_S3x768_d2 h_S_

def host_v7 (x0 : (⟨S3x768x6144, .bf16⟩ : BufTy).Contents (Elt F)) : (⟨S3x768x1, .f32⟩ : BufTy).Contents (Elt F) :=
  broadcastInDim S3x768x1 ![0, 1] bcast_S3x768_S3x768x1_0_1 (host_v6 (F := F) x0)
abbrev at_v7 (i : S3x768x1.Idx) : S3x768.Idx := fun a => match a with
  | ⟨0, _⟩ => ⟨(i 0).val, (i 0).isLt⟩
  | ⟨1, _⟩ => ⟨(i 1).val, (i 1).isLt⟩
theorem host_v7_apply (x0 : (⟨S3x768x6144, .bf16⟩ : BufTy).Contents (Elt F)) (i : S3x768x1.Idx) :
    host_v7 (F := F) x0 i = host_v6 (F := F) x0 (at_v7 i) := by
  unfold host_v7
  generalize host_v6 (F := F) x0 = y
  exact broadcastInDim_apply _ bcast_S3x768_S3x768x1_0_1 y i (at_v7 i) (fun a => match a with
    | ⟨0, _⟩ => by show (i 0).val = if (3 : Nat) = 1 then 0 else (i 0).val; rw [if_neg (by decide)]
    | ⟨1, _⟩ => by show (i 1).val = if (768 : Nat) = 1 then 0 else (i 1).val; rw [if_neg (by decide)])

def host_cst_2 : (⟨S_, .f32⟩ : BufTy).Contents (Elt F) :=
  constant S_ .f32 0x3B124925#32
theorem host_cst_2_apply (i : S_.Idx) :
    host_cst_2 (F := F) i = FloatOps.ofBits .f32 0x3B124925#32 := rfl

def host_v8 : (⟨S3x768x1, .f32⟩ : BufTy).Contents (Elt F) :=
  broadcastInDim S3x768x1 ![] bcast_S_S3x768x1 (host_cst_2 (F := F))
abbrev at_v8 (i : S3x768x1.Idx) : S_.Idx := fun a => a.elim0
theorem host_v8_apply (i : S3x768x1.Idx) :
    host_v8 (F := F) i = host_cst_2 (F := F) (at_v8 i) := by
  unfold host_v8
  generalize host_cst_2 (F := F) = y
  exact broadcastInDim_apply _ bcast_S_S3x768x1 y i (at_v8 i) (fun a => a.elim0)

def host_v9 (x0 : (⟨S3x768x6144, .bf16⟩ : BufTy).Contents (Elt F)) : (⟨S3x768x1, .f32⟩ : BufTy).Contents (Elt F) :=
  mulf (host_v7 (F := F) x0) (host_v8 (F := F))
theorem host_v9_apply (x0 : (⟨S3x768x6144, .bf16⟩ : BufTy).Contents (Elt F)) (i : S3x768x1.Idx) :
    host_v9 (F := F) x0 i = FloatOps.mulf (host_v7 (F := F) x0 i) (host_v8 (F := F) i) := rfl

def host_v10 (x0 : (⟨S3x768x6144, .bf16⟩ : BufTy).Contents (Elt F)) : (⟨S3x768x1, .f32⟩ : BufTy).Contents (Elt F) :=
  Host.log (host_v9 (F := F) x0)
theorem host_v10_apply (x0 : (⟨S3x768x6144, .bf16⟩ : BufTy).Contents (Elt F)) (i : S3x768x1.Idx) :
    host_v10 (F := F) x0 i = FloatOps.hostUnary .log (host_v9 (F := F) x0 i) := rfl

def host_cst_3 : (⟨S_, .f32⟩ : BufTy).Contents (Elt F) :=
  constant S_ .f32 0x40000000#32
theorem host_cst_3_apply (i : S_.Idx) :
    host_cst_3 (F := F) i = FloatOps.ofBits .f32 0x40000000#32 := rfl

def host_v11 : (⟨S3x768x1, .f32⟩ : BufTy).Contents (Elt F) :=
  broadcastInDim S3x768x1 ![] bcast_S_S3x768x1 (host_cst_3 (F := F))
abbrev at_v11 (i : S3x768x1.Idx) : S_.Idx := fun a => a.elim0
theorem host_v11_apply (i : S3x768x1.Idx) :
    host_v11 (F := F) i = host_cst_3 (F := F) (at_v11 i) := by
  unfold host_v11
  generalize host_cst_3 (F := F) = y
  exact broadcastInDim_apply _ bcast_S_S3x768x1 y i (at_v11 i) (fun a => a.elim0)

def host_v12 : (⟨S3x768x1, .f32⟩ : BufTy).Contents (Elt F) :=
  Host.log (host_v11 (F := F))
theorem host_v12_apply (i : S3x768x1.Idx) :
    host_v12 (F := F) i = FloatOps.hostUnary .log (host_v11 (F := F) i) := rfl

def host_v13 (x0 : (⟨S3x768x6144, .bf16⟩ : BufTy).Contents (Elt F)) : (⟨S3x768x1, .f32⟩ : BufTy).Contents (Elt F) :=
  Host.divf (host_v10 (F := F) x0) (host_v12 (F := F))
theorem host_v13_apply (x0 : (⟨S3x768x6144, .bf16⟩ : BufTy).Contents (Elt F)) (i : S3x768x1.Idx) :
    host_v13 (F := F) x0 i = FloatOps.hostDivf (host_v10 (F := F) x0 i) (host_v12 (F := F) i) := rfl

def host_cst_4 : (⟨S_, .f32⟩ : BufTy).Contents (Elt F) :=
  constant S_ .f32 0x00000000#32
theorem host_cst_4_apply (i : S_.Idx) :
    host_cst_4 (F := F) i = FloatOps.ofBits .f32 0x00000000#32 := rfl

def host_v14 : (⟨S3x768x1, .f32⟩ : BufTy).Contents (Elt F) :=
  broadcastInDim S3x768x1 ![] bcast_S_S3x768x1 (host_cst_4 (F := F))
abbrev at_v14 (i : S3x768x1.Idx) : S_.Idx := fun a => a.elim0
theorem host_v14_apply (i : S3x768x1.Idx) :
    host_v14 (F := F) i = host_cst_4 (F := F) (at_v14 i) := by
  unfold host_v14
  generalize host_cst_4 (F := F) = y
  exact broadcastInDim_apply _ bcast_S_S3x768x1 y i (at_v14 i) (fun a => a.elim0)

def host_v15 (x0 : (⟨S3x768x6144, .bf16⟩ : BufTy).Contents (Elt F)) : (⟨S3x768x1, .i1⟩ : BufTy).Contents (Elt F) :=
  cmpf .ogt (host_v9 (F := F) x0) (host_v14 (F := F))
theorem host_v15_apply (x0 : (⟨S3x768x6144, .bf16⟩ : BufTy).Contents (Elt F)) (i : S3x768x1.Idx) :
    host_v15 (F := F) x0 i = FloatOps.cmpf .ogt (host_v9 (F := F) x0 i) (host_v14 (F := F) i) := rfl

def host_cst_5 : (⟨S_, .f32⟩ : BufTy).Contents (Elt F) :=
  constant S_ .f32 0x7F800000#32
theorem host_cst_5_apply (i : S_.Idx) :
    host_cst_5 (F := F) i = FloatOps.ofBits .f32 0x7F800000#32 := rfl

def host_v16 : (⟨S3x768x1, .f32⟩ : BufTy).Contents (Elt F) :=
  broadcastInDim S3x768x1 ![] bcast_S_S3x768x1 (host_cst_5 (F := F))
abbrev at_v16 (i : S3x768x1.Idx) : S_.Idx := fun a => a.elim0
theorem host_v16_apply (i : S3x768x1.Idx) :
    host_v16 (F := F) i = host_cst_5 (F := F) (at_v16 i) := by
  unfold host_v16
  generalize host_cst_5 (F := F) = y
  exact broadcastInDim_apply _ bcast_S_S3x768x1 y i (at_v16 i) (fun a => a.elim0)

def host_v17 (x0 : (⟨S3x768x6144, .bf16⟩ : BufTy).Contents (Elt F)) : (⟨S3x768x1, .i1⟩ : BufTy).Contents (Elt F) :=
  cmpf .olt (host_v9 (F := F) x0) (host_v16 (F := F))
theorem host_v17_apply (x0 : (⟨S3x768x6144, .bf16⟩ : BufTy).Contents (Elt F)) (i : S3x768x1.Idx) :
    host_v17 (F := F) x0 i = FloatOps.cmpf .olt (host_v9 (F := F) x0 i) (host_v16 (F := F) i) := rfl

def host_v18 (x0 : (⟨S3x768x6144, .bf16⟩ : BufTy).Contents (Elt F)) : (⟨S3x768x1, .i1⟩ : BufTy).Contents (Elt F) :=
  andi (host_v15 (F := F) x0) (host_v17 (F := F) x0)
theorem host_v18_apply (x0 : (⟨S3x768x6144, .bf16⟩ : BufTy).Contents (Elt F)) (i : S3x768x1.Idx) :
    host_v18 (F := F) x0 i = IntOp.andi (host_v15 (F := F) x0 i) (host_v17 (F := F) x0 i) := rfl

def host_v19 (x0 : (⟨S3x768x6144, .bf16⟩ : BufTy).Contents (Elt F)) : (⟨S3x768x1, .f32⟩ : BufTy).Contents (Elt F) :=
  Host.floor (host_v13 (F := F) x0)
theorem host_v19_apply (x0 : (⟨S3x768x6144, .bf16⟩ : BufTy).Contents (Elt F)) (i : S3x768x1.Idx) :
    host_v19 (F := F) x0 i = FloatOps.hostUnary .floor (host_v13 (F := F) x0 i) := rfl

def host_cst_6 : (⟨S_, .f32⟩ : BufTy).Contents (Elt F) :=
  constant S_ .f32 0x3F800000#32
theorem host_cst_6_apply (i : S_.Idx) :
    host_cst_6 (F := F) i = FloatOps.ofBits .f32 0x3F800000#32 := rfl

def host_v20 : (⟨S3x768x1, .f32⟩ : BufTy).Contents (Elt F) :=
  broadcastInDim S3x768x1 ![] bcast_S_S3x768x1 (host_cst_6 (F := F))
abbrev at_v20 (i : S3x768x1.Idx) : S_.Idx := fun a => a.elim0
theorem host_v20_apply (i : S3x768x1.Idx) :
    host_v20 (F := F) i = host_cst_6 (F := F) (at_v20 i) := by
  unfold host_v20
  generalize host_cst_6 (F := F) = y
  exact broadcastInDim_apply _ bcast_S_S3x768x1 y i (at_v20 i) (fun a => a.elim0)

def host_v21 (x0 : (⟨S3x768x6144, .bf16⟩ : BufTy).Contents (Elt F)) : (⟨S3x768x1, .f32⟩ : BufTy).Contents (Elt F) :=
  addf (host_v19 (F := F) x0) (host_v20 (F := F))
theorem host_v21_apply (x0 : (⟨S3x768x6144, .bf16⟩ : BufTy).Contents (Elt F)) (i : S3x768x1.Idx) :
    host_v21 (F := F) x0 i = FloatOps.addf (host_v19 (F := F) x0 i) (host_v20 (F := F) i) := rfl

def host_cst_7 : (⟨S_, .f32⟩ : BufTy).Contents (Elt F) :=
  constant S_ .f32 0x00000000#32
theorem host_cst_7_apply (i : S_.Idx) :
    host_cst_7 (F := F) i = FloatOps.ofBits .f32 0x00000000#32 := rfl

def host_call0_v0 : (⟨S_, .f32⟩ : BufTy).Contents (Elt F) :=
  id (host_cst_7 (F := F))
theorem host_call0_v0_apply (i : S_.Idx) :
    host_call0_v0 (F := F) i = (host_cst_7 (F := F) i) := rfl

def host_call0_v1 : (⟨S3x768x1, .f32⟩ : BufTy).Contents (Elt F) :=
  broadcastInDim S3x768x1 ![] bcast_S_S3x768x1 (host_call0_v0 (F := F))
abbrev at_call0_v1 (i : S3x768x1.Idx) : S_.Idx := fun a => a.elim0
theorem host_call0_v1_apply (i : S3x768x1.Idx) :
    host_call0_v1 (F := F) i = host_call0_v0 (F := F) (at_call0_v1 i) := by
  unfold host_call0_v1
  generalize host_call0_v0 (F := F) = y
  exact broadcastInDim_apply _ bcast_S_S3x768x1 y i (at_call0_v1 i) (fun a => a.elim0)

def host_v22 (x0 : (⟨S3x768x6144, .bf16⟩ : BufTy).Contents (Elt F)) : (⟨S3x768x1, .f32⟩ : BufTy).Contents (Elt F) :=
  select (host_v18 (F := F) x0) (host_v21 (F := F) x0) (host_call0_v1 (F := F))
theorem host_v22_apply (x0 : (⟨S3x768x6144, .bf16⟩ : BufTy).Contents (Elt F)) (i : S3x768x1.Idx) :
    host_v22 (F := F) x0 i = Scalar.select (host_v18 (F := F) x0 i) (host_v21 (F := F) x0 i) (host_call0_v1 (F := F) i) := rfl

def host_v23 (x0 : (⟨S3x768x6144, .bf16⟩ : BufTy).Contents (Elt F)) : (⟨S3x768x1, .i32⟩ : BufTy).Contents (Elt F) :=
  fptosi 32 (host_v22 (F := F) x0)
theorem host_v23_apply (x0 : (⟨S3x768x6144, .bf16⟩ : BufTy).Contents (Elt F)) (i : S3x768x1.Idx) :
    host_v23 (F := F) x0 i = FloatOps.fptosi 32 (host_v22 (F := F) x0 i) := rfl

def host_cst_8 : (⟨S_, .f32⟩ : BufTy).Contents (Elt F) :=
  constant S_ .f32 0x00000000#32
theorem host_cst_8_apply (i : S_.Idx) :
    host_cst_8 (F := F) i = FloatOps.ofBits .f32 0x00000000#32 := rfl

def host_v24 : (⟨S3x768x1, .f32⟩ : BufTy).Contents (Elt F) :=
  broadcastInDim S3x768x1 ![] bcast_S_S3x768x1 (host_cst_8 (F := F))
abbrev at_v24 (i : S3x768x1.Idx) : S_.Idx := fun a => a.elim0
theorem host_v24_apply (i : S3x768x1.Idx) :
    host_v24 (F := F) i = host_cst_8 (F := F) (at_v24 i) := by
  unfold host_v24
  generalize host_cst_8 (F := F) = y
  exact broadcastInDim_apply _ bcast_S_S3x768x1 y i (at_v24 i) (fun a => a.elim0)

def host_v25 (x0 : (⟨S3x768x6144, .bf16⟩ : BufTy).Contents (Elt F)) : (⟨S3x768x1, .i1⟩ : BufTy).Contents (Elt F) :=
  cmpf .oeq (host_v7 (F := F) x0) (host_v24 (F := F))
theorem host_v25_apply (x0 : (⟨S3x768x6144, .bf16⟩ : BufTy).Contents (Elt F)) (i : S3x768x1.Idx) :
    host_v25 (F := F) x0 i = FloatOps.cmpf .oeq (host_v7 (F := F) x0 i) (host_v24 (F := F) i) := rfl

def host_c : (⟨S_, .i32⟩ : BufTy).Contents (Elt F) :=
  constantI S_ 32 0#32
theorem host_c_apply (i : S_.Idx) :
    host_c (F := F) i = 0#32 := rfl

def host_call1_v0 : (⟨S_, .i32⟩ : BufTy).Contents (Elt F) :=
  id (host_c (F := F))
theorem host_call1_v0_apply (i : S_.Idx) :
    host_call1_v0 (F := F) i = (host_c (F := F) i) := rfl

def host_call1_v1 : (⟨S3x768x1, .i32⟩ : BufTy).Contents (Elt F) :=
  broadcastInDim S3x768x1 ![] bcast_S_S3x768x1 (host_call1_v0 (F := F))
abbrev at_call1_v1 (i : S3x768x1.Idx) : S_.Idx := fun a => a.elim0
theorem host_call1_v1_apply (i : S3x768x1.Idx) :
    host_call1_v1 (F := F) i = host_call1_v0 (F := F) (at_call1_v1 i) := by
  unfold host_call1_v1
  generalize host_call1_v0 (F := F) = y
  exact broadcastInDim_apply _ bcast_S_S3x768x1 y i (at_call1_v1 i) (fun a => a.elim0)

def host_v26 (x0 : (⟨S3x768x6144, .bf16⟩ : BufTy).Contents (Elt F)) : (⟨S3x768x1, .i32⟩ : BufTy).Contents (Elt F) :=
  select (host_v25 (F := F) x0) (host_call1_v1 (F := F)) (host_v23 (F := F) x0)
theorem host_v26_apply (x0 : (⟨S3x768x6144, .bf16⟩ : BufTy).Contents (Elt F)) (i : S3x768x1.Idx) :
    host_v26 (F := F) x0 i = Scalar.select (host_v25 (F := F) x0 i) (host_call1_v1 (F := F) i) (host_v23 (F := F) x0 i) := rfl

def host_cst_9 : (⟨S_, .f32⟩ : BufTy).Contents (Elt F) :=
  constant S_ .f32 0x40000000#32
theorem host_cst_9_apply (i : S_.Idx) :
    host_cst_9 (F := F) i = FloatOps.ofBits .f32 0x40000000#32 := rfl

def host_v27 : (⟨S3x768x1, .f32⟩ : BufTy).Contents (Elt F) :=
  broadcastInDim S3x768x1 ![] bcast_S_S3x768x1 (host_cst_9 (F := F))
abbrev at_v27 (i : S3x768x1.Idx) : S_.Idx := fun a => a.elim0
theorem host_v27_apply (i : S3x768x1.Idx) :
    host_v27 (F := F) i = host_cst_9 (F := F) (at_v27 i) := by
  unfold host_v27
  generalize host_cst_9 (F := F) = y
  exact broadcastInDim_apply _ bcast_S_S3x768x1 y i (at_v27 i) (fun a => a.elim0)

def host_v28 (x0 : (⟨S3x768x6144, .bf16⟩ : BufTy).Contents (Elt F)) : (⟨S3x768x1, .f32⟩ : BufTy).Contents (Elt F) :=
  sitofp .f32 (host_v26 (F := F) x0)
theorem host_v28_apply (x0 : (⟨S3x768x6144, .bf16⟩ : BufTy).Contents (Elt F)) (i : S3x768x1.Idx) :
    host_v28 (F := F) x0 i = FloatOps.sitofp .f32 (host_v26 (F := F) x0 i) := rfl

def host_v29 (x0 : (⟨S3x768x6144, .bf16⟩ : BufTy).Contents (Elt F)) : (⟨S3x768x1, .f32⟩ : BufTy).Contents (Elt F) :=
  Host.powf (host_v27 (F := F)) (host_v28 (F := F) x0)
theorem host_v29_apply (x0 : (⟨S3x768x6144, .bf16⟩ : BufTy).Contents (Elt F)) (i : S3x768x1.Idx) :
    host_v29 (F := F) x0 i = FloatOps.hostPowf (host_v27 (F := F) i) (host_v28 (F := F) x0 i) := rfl

def host_v30 (x0 : (⟨S3x768x6144, .bf16⟩ : BufTy).Contents (Elt F)) : (⟨S3x768x1, .i32⟩ : BufTy).Contents (Elt F) :=
  negi (host_v26 (F := F) x0)
theorem host_v30_apply (x0 : (⟨S3x768x6144, .bf16⟩ : BufTy).Contents (Elt F)) (i : S3x768x1.Idx) :
    host_v30 (F := F) x0 i = -(host_v26 (F := F) x0 i) := rfl

def host_v31 (x0 : (⟨S3x768x6144, .bf16⟩ : BufTy).Contents (Elt F)) : (⟨S3x768x1, .f32⟩ : BufTy).Contents (Elt F) :=
  sitofp .f32 (host_v30 (F := F) x0)
theorem host_v31_apply (x0 : (⟨S3x768x6144, .bf16⟩ : BufTy).Contents (Elt F)) (i : S3x768x1.Idx) :
    host_v31 (F := F) x0 i = FloatOps.sitofp .f32 (host_v30 (F := F) x0 i) := rfl

def host_v32 (x0 : (⟨S3x768x6144, .bf16⟩ : BufTy).Contents (Elt F)) : (⟨S3x768x1, .f32⟩ : BufTy).Contents (Elt F) :=
  Host.powf (host_v27 (F := F)) (host_v31 (F := F) x0)
theorem host_v32_apply (x0 : (⟨S3x768x6144, .bf16⟩ : BufTy).Contents (Elt F)) (i : S3x768x1.Idx) :
    host_v32 (F := F) x0 i = FloatOps.hostPowf (host_v27 (F := F) i) (host_v31 (F := F) x0 i) := rfl

def host_v33 (x0 : (⟨S3x768x6144, .bf16⟩ : BufTy).Contents (Elt F)) : (⟨S3x768x6144, .f32⟩ : BufTy).Contents (Elt F) :=
  broadcastInDim S3x768x6144 ![0, 1, 2] bcast_S3x768x1_S3x768x6144_0_1_2 (host_v32 (F := F) x0)
abbrev at_v33 (i : S3x768x6144.Idx) : S3x768x1.Idx := fun a => match a with
  | ⟨0, _⟩ => ⟨(i 0).val, (i 0).isLt⟩
  | ⟨1, _⟩ => ⟨(i 1).val, (i 1).isLt⟩
  | ⟨2, _⟩ => ⟨0, Nat.one_pos⟩
theorem host_v33_apply (x0 : (⟨S3x768x6144, .bf16⟩ : BufTy).Contents (Elt F)) (i : S3x768x6144.Idx) :
    host_v33 (F := F) x0 i = host_v32 (F := F) x0 (at_v33 i) := by
  unfold host_v33
  generalize host_v32 (F := F) x0 = y
  exact broadcastInDim_apply _ bcast_S3x768x1_S3x768x6144_0_1_2 y i (at_v33 i) (fun a => match a with
    | ⟨0, _⟩ => by show (i 0).val = if (3 : Nat) = 1 then 0 else (i 0).val; rw [if_neg (by decide)]
    | ⟨1, _⟩ => by show (i 1).val = if (768 : Nat) = 1 then 0 else (i 1).val; rw [if_neg (by decide)]
    | ⟨2, _⟩ => by show 0 = if (1 : Nat) = 1 then 0 else (i 2).val; rw [if_pos rfl])

def host_v34 (x0 : (⟨S3x768x6144, .bf16⟩ : BufTy).Contents (Elt F)) : (⟨S3x768x6144, .f32⟩ : BufTy).Contents (Elt F) :=
  mulf (host_v4 (F := F) x0) (host_v33 (F := F) x0)
theorem host_v34_apply (x0 : (⟨S3x768x6144, .bf16⟩ : BufTy).Contents (Elt F)) (i : S3x768x6144.Idx) :
    host_v34 (F := F) x0 i = FloatOps.mulf (host_v4 (F := F) x0 i) (host_v33 (F := F) x0 i) := rfl

def host_cst_10 : (⟨S_, .f32⟩ : BufTy).Contents (Elt F) :=
  constant S_ .f32 0xC3E00000#32
theorem host_cst_10_apply (i : S_.Idx) :
    host_cst_10 (F := F) i = FloatOps.ofBits .f32 0xC3E00000#32 := rfl

def host_cst_11 : (⟨S_, .f32⟩ : BufTy).Contents (Elt F) :=
  constant S_ .f32 0x43E00000#32
theorem host_cst_11_apply (i : S_.Idx) :
    host_cst_11 (F := F) i = FloatOps.ofBits .f32 0x43E00000#32 := rfl

def host_call2_v0 : (⟨S_, .f32⟩ : BufTy).Contents (Elt F) :=
  id (host_cst_10 (F := F))
theorem host_call2_v0_apply (i : S_.Idx) :
    host_call2_v0 (F := F) i = (host_cst_10 (F := F) i) := rfl

def host_call2_v1 : (⟨S3x768x6144, .f32⟩ : BufTy).Contents (Elt F) :=
  broadcastInDim S3x768x6144 ![] bcast_S_S3x768x6144 (host_call2_v0 (F := F))
abbrev at_call2_v1 (i : S3x768x6144.Idx) : S_.Idx := fun a => a.elim0
theorem host_call2_v1_apply (i : S3x768x6144.Idx) :
    host_call2_v1 (F := F) i = host_call2_v0 (F := F) (at_call2_v1 i) := by
  unfold host_call2_v1
  generalize host_call2_v0 (F := F) = y
  exact broadcastInDim_apply _ bcast_S_S3x768x6144 y i (at_call2_v1 i) (fun a => a.elim0)

def host_call2_v2 (x0 : (⟨S3x768x6144, .bf16⟩ : BufTy).Contents (Elt F)) : (⟨S3x768x6144, .f32⟩ : BufTy).Contents (Elt F) :=
  maximumf (host_call2_v1 (F := F)) (host_v34 (F := F) x0)
theorem host_call2_v2_apply (x0 : (⟨S3x768x6144, .bf16⟩ : BufTy).Contents (Elt F)) (i : S3x768x6144.Idx) :
    host_call2_v2 (F := F) x0 i = FloatOps.maximumf (host_call2_v1 (F := F) i) (host_v34 (F := F) x0 i) := rfl

def host_call2_v3 : (⟨S_, .f32⟩ : BufTy).Contents (Elt F) :=
  id (host_cst_11 (F := F))
theorem host_call2_v3_apply (i : S_.Idx) :
    host_call2_v3 (F := F) i = (host_cst_11 (F := F) i) := rfl

def host_call2_v4 : (⟨S3x768x6144, .f32⟩ : BufTy).Contents (Elt F) :=
  broadcastInDim S3x768x6144 ![] bcast_S_S3x768x6144 (host_call2_v3 (F := F))
abbrev at_call2_v4 (i : S3x768x6144.Idx) : S_.Idx := fun a => a.elim0
theorem host_call2_v4_apply (i : S3x768x6144.Idx) :
    host_call2_v4 (F := F) i = host_call2_v3 (F := F) (at_call2_v4 i) := by
  unfold host_call2_v4
  generalize host_call2_v3 (F := F) = y
  exact broadcastInDim_apply _ bcast_S_S3x768x6144 y i (at_call2_v4 i) (fun a => a.elim0)

def host_v35 (x0 : (⟨S3x768x6144, .bf16⟩ : BufTy).Contents (Elt F)) : (⟨S3x768x6144, .f32⟩ : BufTy).Contents (Elt F) :=
  minimumf (host_call2_v4 (F := F)) (host_call2_v2 (F := F) x0)
theorem host_v35_apply (x0 : (⟨S3x768x6144, .bf16⟩ : BufTy).Contents (Elt F)) (i : S3x768x6144.Idx) :
    host_v35 (F := F) x0 i = FloatOps.minimumf (host_call2_v4 (F := F) i) (host_call2_v2 (F := F) x0 i) := rfl

variable (m : (ℓ : Loc nD τ sig) → Buf (Elt F) ℓ)

set_option maxRecDepth 8192 in
set_option maxHeartbeats 4000000 in
/-- The scale, as the reference's host operations leave it. -/
theorem V_scale (c : Dev nD) : V m c main_v29 = host_v29 (F := F) (m ((c : Thread nD τ).loc main_arg0)) := by
  unfold V
  simp only [hostOps0, hostOps0_1, hostOps0_2, hostOps0_3, hostOps0_4, hostOps0_5, List.flatten_cons, List.flatten_nil,
    List.append_nil, List.cons_append, List.nil_append, TRef.binary, TRef.ternary, TRef.unary, TRef.toBuf, TRef.ofBuf, cast_eq]
  after_results_simp <;> rfl

set_option maxRecDepth 8192 in
set_option maxHeartbeats 4000000 in
/-- The clipped values, as the reference's host operations leave them. -/
theorem V_clipped (c : Dev nD) : V m c main_v35 = host_v35 (F := F) (m ((c : Thread nD τ).loc main_arg0)) := by
  unfold V
  simp only [hostOps0, hostOps0_1, hostOps0_2, hostOps0_3, hostOps0_4, hostOps0_5, List.flatten_cons, List.flatten_nil,
    List.append_nil, List.cons_append, List.nil_append, TRef.binary, TRef.ternary, TRef.unary, TRef.toBuf, TRef.ofBuf, cast_eq]
  after_results_simp <;> rfl

end HadamardQuant

end
-- ==== Proof.Collapse.lean ====
/- A 256-column product by a matrix of two equal diagonal blocks is a 128-column product by the block: the other half of
   each sum multiplies by zero. -/
module

public import proofs.«01_k».proof.Proof.Row

@[expose] public section

noncomputable section

namespace HadamardQuant

open Idealize.ShloMosaic

/-- A row multiplied 128 columns at a time by a matrix of 128 rows and columns, and by the factor. -/
def blockProduct (x : Fin 6144 → EReal) (N : Fin 128 → Fin 128 → EReal) (q : Fin 6144) : EReal :=
  (∑ k : Fin 128, x ⟨128 * (q.val / 128) + k.val, by omega⟩ * N k ⟨q.val % 128, by omega⟩) * norm

theorem product_collapse (x : Fin 6144 → EReal) (M : Fin 256 → Fin 256 → EReal) (N : Fin 128 → Fin 128 → EReal)
    (diag : ∀ k c : Fin 256, k.val / 128 = c.val / 128 →
      M k c = N ⟨k.val % 128, Nat.mod_lt _ (by decide)⟩ ⟨c.val % 128, Nat.mod_lt _ (by decide)⟩)
    (off : ∀ k c : Fin 256, k.val / 128 ≠ c.val / 128 → M k c = 0) (q : Fin 6144) :
    product x M q = blockProduct x N q := by
  unfold product blockProduct
  refine congrArg (· * norm) ?_
  refine (Fin.sum_univ_add (a := 128) (b := 128) (fun k : Fin (128 + 128) =>
    x ⟨256 * (q.val / 256) + k.val, by omega⟩ * M k ⟨q.val % 256, by omega⟩)).trans ?_
  by_cases h : q.val % 256 < 128
  · rw [Finset.sum_eq_zero (s := Finset.univ) (f := fun k : Fin 128 => x ⟨256 * (q.val / 256) + (Fin.natAdd 128 k).val, _⟩
      * M (Fin.natAdd 128 k) ⟨q.val % 256, _⟩), add_zero]
    · refine Finset.sum_congr rfl fun k _ => ?_
      refine congrArg₂ (· * ·) (congrArg x (Fin.ext ?_)) ((diag _ _ ?_).trans (congrArg₂ N (Fin.ext ?_) (Fin.ext ?_)))
      all_goals simp only [Fin.val_castAdd]; omega
    · intro k _
      rw [off _ _ (by simp only [Fin.val_natAdd]; omega), mul_zero]
  · rw [Finset.sum_eq_zero (s := Finset.univ) (f := fun k : Fin 128 => x ⟨256 * (q.val / 256) + (Fin.castAdd 128 k).val, _⟩
      * M (Fin.castAdd 128 k) ⟨q.val % 256, _⟩), zero_add]
    · refine Finset.sum_congr rfl fun k _ => ?_
      refine congrArg₂ (· * ·) (congrArg x (Fin.ext ?_)) ((diag _ _ ?_).trans (congrArg₂ N (Fin.ext ?_) (Fin.ext ?_)))
      all_goals simp only [Fin.val_natAdd]; omega
    · intro k _
      rw [off _ _ (by simp only [Fin.val_castAdd]; omega), mul_zero]

end HadamardQuant

end
-- ==== Proof.ReferenceRows.lean ====
/- The reference's two results, row by row over the extended reals: the scale of a row, and its clipped values. -/
module

public import proofs.«01_k».proof.Proof.ReferenceRead
public import proofs.«01_k».proof.Proof.Collapse
public import Idealize.ShloMosaic.Lib.Pointwise.Index

@[expose] public section

noncomputable section

namespace HadamardQuant

open Cert.ReferenceIdeal Cert.ReferenceIdeal.Gen Idealize.ShloMosaic

/-- The reference's matrix, entry by entry. -/
def referenceMatrix (k c : Fin 128) : EReal := Ideal.ofBits .bf16 (lit0 (S128x128.rowMajor (ix2 k c)))

/-- Row `(b, s)` of the argument times the matrix. -/
def referenceRow (x : S3x768x6144.Idx → EReal) (b : Fin 3) (s : Fin 768) : Fin 6144 → EReal :=
  blockProduct (fun k => x (ix3 b s k)) referenceMatrix

/-- Where the argument is read for entry `k` of the sum at `i`. -/
theorem at_arg (i : S3x768x6144.Idx) (k : Fin 128) :
    at_v0 (left_v1 (at_v4 i) k) = ix3 (i 0) (i 1) ⟨128 * ((i 2).val / 128) + k.val, by have : (i 2).val < 6144 := (i 2).isLt; omega⟩ := by
  have h0 : (i 0).val < 3 := (i 0).isLt
  have h1 : (i 1).val < 768 := (i 1).isLt
  have h2 : (i 2).val < 6144 := (i 2).isLt
  have hk : k.val < 128 := k.isLt
  have e0 : (((i 0).val * 768 + (i 1).val) * 6144 + (i 2).val) / 4718592 = (i 0).val := by omega
  have e1 : (((i 0).val * 768 + (i 1).val) * 6144 + (i 2).val) / 6144 % 768 = (i 1).val := by omega
  have e2 : (((i 0).val * 768 + (i 1).val) * 6144 + (i 2).val) / 128 % 48 = (i 2).val / 128 := by omega
  funext a
  apply Fin.ext
  match a with
  | ⟨0, _⟩ =>
    show (((((((i 0).val * 768 + (i 1).val) * 6144 + (i 2).val) / 4718592) * 768
      + (((i 0).val * 768 + (i 1).val) * 6144 + (i 2).val) / 6144 % 768) * 48
      + (((i 0).val * 768 + (i 1).val) * 6144 + (i 2).val) / 128 % 48) * 128 + k.val) / 4718592 = (i 0).val
    rw [e0, e1, e2]; omega
  | ⟨1, _⟩ =>
    show (((((((i 0).val * 768 + (i 1).val) * 6144 + (i 2).val) / 4718592) * 768
      + (((i 0).val * 768 + (i 1).val) * 6144 + (i 2).val) / 6144 % 768) * 48
      + (((i 0).val * 768 + (i 1).val) * 6144 + (i 2).val) / 128 % 48) * 128 + k.val) / 6144 % 768 = (i 1).val
    rw [e0, e1, e2]; omega
  | ⟨2, _⟩ =>
    show (((((((i 0).val * 768 + (i 1).val) * 6144 + (i 2).val) / 4718592) * 768
      + (((i 0).val * 768 + (i 1).val) * 6144 + (i 2).val) / 6144 % 768) * 48
      + (((i 0).val * 768 + (i 1).val) * 6144 + (i 2).val) / 128 % 48) * 128 + k.val) % 6144 = 128 * ((i 2).val / 128) + k.val
    rw [e0, e1, e2]; omega

/-- Where the matrix is read for entry `k` of the sum at `i`. -/
theorem at_matrix (i : S3x768x6144.Idx) (k : Fin 128) :
    right_v1 (at_v4 i) k = ix2 k ⟨(i 2).val % 128, Nat.mod_lt _ (by decide)⟩ := by
  funext a
  apply Fin.ext
  match a with
  | ⟨0, _⟩ => rfl
  | ⟨1, _⟩ => show (((i 0).val * 768 + (i 1).val) * 6144 + (i 2).val) % 128 = (i 2).val % 128; omega

/-- The transformed values. -/
theorem host_v4_row (x : S3x768x6144.Idx → EReal) (i : S3x768x6144.Idx) :
    host_v4 (F := Ideal) x i = referenceRow x (i 0) (i 1) (i 2) := by
  rw [host_v4_apply, host_v3_apply, host_v1_apply, host_v2_apply, host_cst_0_apply]
  unfold referenceRow blockProduct
  refine congrArg (· * norm) (Finset.sum_congr rfl fun k _ => ?_)
  rw [host_v0_apply, at_arg, at_matrix]
  rfl

/-- Their magnitudes. -/
theorem host_v5_row (x : S3x768x6144.Idx → EReal) (b : Fin 3) (s : Fin 768) (q : Fin 6144) :
    host_v5 (F := Ideal) x (ix3 b s q) = max (referenceRow x b s q) (-referenceRow x b s q) := by
  have h : host_v4 (F := Ideal) x (ix3 b s q) = referenceRow x b s q := host_v4_row x (ix3 b s q)
  rw [host_v5_apply, h]
  generalize referenceRow x b s q = z
  rfl

theorem reduces_row : S3x768x6144.Reduces [2] S3x768 := by decide

theorem lift_row (j : S3x768.Idx) (q : Fin 6144) : reduces_row.lift j q = ix3 (j 0) (j 1) q := by
  funext a
  match a with
  | ⟨0, _⟩ => rfl
  | ⟨1, _⟩ => rfl
  | ⟨2, _⟩ => rfl

/-- The largest magnitude of a row. -/
theorem host_v6_row (x : S3x768x6144.Idx → EReal) (j : S3x768.Idx) :
    host_v6 (F := Ideal) x j = rowMax (referenceRow x (j 0) (j 1)) := by
  unfold host_v6
  refine (Host.reduce_eq_fold (max : EReal → EReal → EReal) _ _ _ _ _).trans ?_
  rw [Shape.ReducesTo.drop_eq_drop _ reduces_row]
  refine (reduces_row.fold_filter_drop_single _ _ _ j).trans ?_
  unfold rowMax Finset.sup
  have hb : (host_cst_1 (F := Ideal) (Shape.Idx.first h_S_) : EReal) = ⊥ := ofBits_bot
  rw [hb]
  refine congrArg (fun f => Finset.fold max (⊥ : EReal) f Finset.univ) (funext fun q => ?_)
  exact (congrArg (host_v5 (F := Ideal) x) (lift_row j q)).trans (host_v5_row x (j 0) (j 1) q)

/-- The largest magnitude, at an index of the column it is kept in. -/
theorem host_v7_row (x : S3x768x6144.Idx → EReal) (i : S3x768x1.Idx) :
    host_v7 (F := Ideal) x i = rowMax (referenceRow x (i 0) (i 1)) := by
  rw [host_v7_apply, host_v6_row]
  rfl

/-- The exponent word. -/
theorem host_v26_row (x : S3x768x6144.Idx → EReal) (i : S3x768x1.Idx) :
    host_v26 (F := Ideal) x i = rowExp (referenceRow x (i 0) (i 1)) := by
  have h9 : host_v9 (F := Ideal) x i = rowMax (referenceRow x (i 0) (i 1)) * invMax := by
    rw [host_v9_apply, host_v7_row, host_v8_apply, host_cst_2_apply]; rfl
  rw [host_v26_apply, host_v25_apply, host_v23_apply, host_v22_apply, host_v18_apply, host_v15_apply, host_v17_apply,
    host_v21_apply, host_v19_apply, host_v13_apply, host_v10_apply, host_v12_apply, h9, host_v7_row,
    host_v24_apply, host_v14_apply, host_v16_apply, host_v20_apply, host_v11_apply, host_call0_v1_apply, host_call0_v0_apply,
    host_call1_v1_apply, host_call1_v0_apply, host_cst_3_apply, host_cst_4_apply, host_cst_5_apply, host_cst_6_apply,
    host_cst_7_apply, host_cst_8_apply, host_c_apply]
  unfold rowExp
  generalize rowMax (referenceRow x (i 0) (i 1)) = a
  generalize a * invMax = t
  rfl

/-- The scale of a row. -/
theorem host_v29_row (x : S3x768x6144.Idx → EReal) (i : S3x768x1.Idx) :
    host_v29 (F := Ideal) x i = rowScale (referenceRow x (i 0) (i 1)) := by
  rw [host_v29_apply, host_v28_apply, host_v26_row]
  rfl

/-- The clipped values of a row. -/
theorem host_v35_row (x : S3x768x6144.Idx → EReal) (i : S3x768x6144.Idx) :
    host_v35 (F := Ideal) x i = clipped (referenceRow x (i 0) (i 1)) (i 2) := by
  rw [host_v35_apply, host_call2_v2_apply, host_v34_apply, host_v33_apply, host_v32_apply, host_v31_apply, host_v30_apply,
    host_v26_row, host_v4_row]
  rfl

end HadamardQuant

end
-- ==== Proof.ReferenceArrays.lean ====
/- What the reference's two result arrays hold after its run: the scale, written by its host operations, and the codes,
   written by the one cast of the whole clipped array. -/
module

public import proofs.«01_k».proof.Proof.ReferenceRows
public import Idealize.ShloMosaic.Lib.Pipeline.ValueKit

@[expose] public section

noncomputable section

namespace HadamardQuant

open Idealize.ShloMosaic Idealize.ShloMosaic.TcCoe Idealize.SL.Sem
open Cert.ReferenceIdeal Cert.ReferenceIdeal.Gen

variable (m : (ℓ : Loc nD τ sig) → Buf (Elt Ideal) ℓ)

theorem at_whole : ∀ t : Fin grid0.N, win0_0.index t = ![0, 0, 0] ∧ win0_1.index t = ![0, 0, 0] := by decide +kernel

/-- The array the cast reads. -/
theorem block_clipped (c : Dev nD) (t : Fin cfg0.N) (y : S3x768x6144.Idx) :
    iblk m c 0 t y = clipped (referenceRow (m ((c : Thread nD τ).loc main_arg0)) (y 0) (y 1)) (y 2) := by
  rw [← host_v35_row, ← V_clipped m c]
  blk_ext [iblk, at_whole t]

theorem off_zero : (![0, 0, 0] : Fin 3 → ℕ) = fun _ => 0 := by decide

/-- What the cast leaves of its block: the same value. -/
theorem cast_apply (x : S3x768x6144.Idx → EReal) (y : S3x768x6144.Idx) : out0_1 (F := Ideal) x y = x y := by
  unfold out0_1
  rw [View.canon_unit_zero off_zero, View.ld_unit_zero off_zero]
  exact congrFun (shapeCast_self _ _) y

/-- The block the cast writes. -/
theorem reference_block (c : Dev nD) (t : Fin cfg0.N) : (dats m 0 c).after 1 t = fun y : S3x768x6144.Idx =>
    clipped (referenceRow (m ((c : Thread nD τ).loc main_arg0)) (y 0) (y 1)) (y 2) := by
  rw [after0_1]
  funext y
  exact (cast_apply (iblk m c 0 t) y).trans (block_clipped m c t y)

/-- The array of codes after the run. -/
theorem reference_codes (c : Dev nD) : (dats m 0 c).arrAt 1 cfg0.N = fun i : S3x768x6144.Idx =>
    clipped (referenceRow (m ((c : Thread nD τ).loc main_arg0)) (i 0) (i 1)) (i 2) := by
  refine (dats m 0 c).arrAt_eq_of_covers 1 _ (by decide +kernel) fun t hf (y : S3x768x6144.Idx) => ?_
  have h : ((cfg0.win 1).blk t).view.emb y = y := by
    funext a
    match a with
    | ⟨0, _⟩ => apply Fin.ext; blk_simp [at_whole t]
    | ⟨1, _⟩ => apply Fin.ext; blk_simp [at_whole t]
    | ⟨2, _⟩ => apply Fin.ext; blk_simp [at_whole t]
  refine Eq.trans ?_ (congrArg (fun i : S3x768x6144.Idx =>
    clipped (referenceRow (m ((c : Thread nD τ).loc main_arg0)) (i 0) (i 1)) (i 2)) h).symm
  rw [reference_block]
  rfl

/-- The reference's run, its two results row by row. -/
theorem reference_run (ρ : Dev nD → PrngReg) :
    θ_run defs (onTc (τ := τ) (main (F := Ideal))) ⟨m, fun _ => 0, ρ⟩ fun r => ∀ c : Dev nD,
      r.2.mem ((c : Thread nD τ).loc main_v29) = (fun i : S3x768x1.Idx =>
        rowScale (referenceRow (m ((c : Thread nD τ).loc main_arg0)) (i 0) (i 1)))
      ∧ r.2.mem ((c : Thread nD τ).loc main_v36) = (fun i : S3x768x6144.Idx =>
        clipped (referenceRow (m ((c : Thread nD τ).loc main_arg0)) (i 0) (i 1)) (i 2))
      ∧ r.2.mem ((c : Thread nD τ).loc main_arg0) = m ((c : Thread nD τ).loc main_arg0) :=
  (θ_run defs _ _).mono (fun r h c =>
    ⟨((h c).2 main_v29 (Pipeline.mem_restRefs_of main_v29 (by decide) (by decide))).trans
        ((V_scale m c).trans (funext fun i => host_v29_row _ i)),
      ((h c).1 1).trans (reference_codes m c),
      ((h c).2 main_arg0 (Pipeline.mem_restRefs_of main_arg0 (by decide) (by decide))).trans (V_main_arg0 m c)⟩)
    (run_main m ρ)

end HadamardQuant

end
-- ==== Proof.TableRuns.lean ====
/- The kernel's matrix table, against the reference's.
   The kernel holds a 256 by 256 table and the reference a 128 by 128 one. Both are printed in runs of
   128 entries. Run `2 i` of the kernel is the left half of its row `i` and run `2 i + 1` the right
   half. On the two diagonal blocks a run of the kernel is word for word a run of the reference; off
   them every word is a zero of either sign. -/
module

public import proofs.«01_k».proof.KernelIdeal
public import proofs.«01_k».proof.ReferenceIdeal

@[expose] public section

set_option maxRecDepth 16384

namespace HadamardQuant

/-- A bf16 word that is zero, of either sign. -/
def ZeroWord (w : BitVec 16) : Prop := w = 0x0000#16 ∨ w = 0x8000#16

instance (w : BitVec 16) : Decidable (ZeroWord w) := inferInstanceAs (Decidable (_ ∨ _))

/-- Run `0 + b` of the kernel's table. -/
noncomputable def run0 (b n : ℕ) : BitVec 16 := match b with
  | 0 => Cert.KernelIdeal.lit0t0_0 n
  | 1 => Cert.KernelIdeal.lit0t0_1 n
  | 2 => Cert.KernelIdeal.lit0t0_2 n
  | 3 => Cert.KernelIdeal.lit0t0_3 n
  | 4 => Cert.KernelIdeal.lit0t0_4 n
  | 5 => Cert.KernelIdeal.lit0t0_5 n
  | 6 => Cert.KernelIdeal.lit0t0_6 n
  | 7 => Cert.KernelIdeal.lit0t0_7 n
  | 8 => Cert.KernelIdeal.lit0t0_8 n
  | 9 => Cert.KernelIdeal.lit0t0_9 n
  | 10 => Cert.KernelIdeal.lit0t0_10 n
  | 11 => Cert.KernelIdeal.lit0t0_11 n
  | 12 => Cert.KernelIdeal.lit0t0_12 n
  | 13 => Cert.KernelIdeal.lit0t0_13 n
  | 14 => Cert.KernelIdeal.lit0t0_14 n
  | 15 => Cert.KernelIdeal.lit0t0_15 n
  | 16 => Cert.KernelIdeal.lit0t0_16 n
  | 17 => Cert.KernelIdeal.lit0t0_17 n
  | 18 => Cert.KernelIdeal.lit0t0_18 n
  | 19 => Cert.KernelIdeal.lit0t0_19 n
  | 20 => Cert.KernelIdeal.lit0t0_20 n
  | 21 => Cert.KernelIdeal.lit0t0_21 n
  | 22 => Cert.KernelIdeal.lit0t0_22 n
  | 23 => Cert.KernelIdeal.lit0t0_23 n
  | 24 => Cert.KernelIdeal.lit0t0_24 n
  | 25 => Cert.KernelIdeal.lit0t0_25 n
  | 26 => Cert.KernelIdeal.lit0t0_26 n
  | 27 => Cert.KernelIdeal.lit0t0_27 n
  | 28 => Cert.KernelIdeal.lit0t0_28 n
  | 29 => Cert.KernelIdeal.lit0t0_29 n
  | 30 => Cert.KernelIdeal.lit0t0_30 n
  | 31 => Cert.KernelIdeal.lit0t0_31 n
  | 32 => Cert.KernelIdeal.lit0t0_32 n
  | 33 => Cert.KernelIdeal.lit0t0_33 n
  | 34 => Cert.KernelIdeal.lit0t0_34 n
  | 35 => Cert.KernelIdeal.lit0t0_35 n
  | 36 => Cert.KernelIdeal.lit0t0_36 n
  | 37 => Cert.KernelIdeal.lit0t0_37 n
  | 38 => Cert.KernelIdeal.lit0t0_38 n
  | 39 => Cert.KernelIdeal.lit0t0_39 n
  | 40 => Cert.KernelIdeal.lit0t0_40 n
  | 41 => Cert.KernelIdeal.lit0t0_41 n
  | 42 => Cert.KernelIdeal.lit0t0_42 n
  | 43 => Cert.KernelIdeal.lit0t0_43 n
  | 44 => Cert.KernelIdeal.lit0t0_44 n
  | 45 => Cert.KernelIdeal.lit0t0_45 n
  | 46 => Cert.KernelIdeal.lit0t0_46 n
  | 47 => Cert.KernelIdeal.lit0t0_47 n
  | 48 => Cert.KernelIdeal.lit0t0_48 n
  | 49 => Cert.KernelIdeal.lit0t0_49 n
  | 50 => Cert.KernelIdeal.lit0t0_50 n
  | 51 => Cert.KernelIdeal.lit0t0_51 n
  | 52 => Cert.KernelIdeal.lit0t0_52 n
  | 53 => Cert.KernelIdeal.lit0t0_53 n
  | 54 => Cert.KernelIdeal.lit0t0_54 n
  | 55 => Cert.KernelIdeal.lit0t0_55 n
  | 56 => Cert.KernelIdeal.lit0t0_56 n
  | 57 => Cert.KernelIdeal.lit0t0_57 n
  | 58 => Cert.KernelIdeal.lit0t0_58 n
  | 59 => Cert.KernelIdeal.lit0t0_59 n
  | 60 => Cert.KernelIdeal.lit0t0_60 n
  | 61 => Cert.KernelIdeal.lit0t0_61 n
  | 62 => Cert.KernelIdeal.lit0t0_62 n
  | 63 => Cert.KernelIdeal.lit0t0_63 n
  | 64 => Cert.KernelIdeal.lit0t0_64 n
  | 65 => Cert.KernelIdeal.lit0t0_65 n
  | 66 => Cert.KernelIdeal.lit0t0_66 n
  | 67 => Cert.KernelIdeal.lit0t0_67 n
  | 68 => Cert.KernelIdeal.lit0t0_68 n
  | 69 => Cert.KernelIdeal.lit0t0_69 n
  | 70 => Cert.KernelIdeal.lit0t0_70 n
  | 71 => Cert.KernelIdeal.lit0t0_71 n
  | 72 => Cert.KernelIdeal.lit0t0_72 n
  | 73 => Cert.KernelIdeal.lit0t0_73 n
  | 74 => Cert.KernelIdeal.lit0t0_74 n
  | 75 => Cert.KernelIdeal.lit0t0_75 n
  | 76 => Cert.KernelIdeal.lit0t0_76 n
  | 77 => Cert.KernelIdeal.lit0t0_77 n
  | 78 => Cert.KernelIdeal.lit0t0_78 n
  | 79 => Cert.KernelIdeal.lit0t0_79 n
  | 80 => Cert.KernelIdeal.lit0t0_80 n
  | 81 => Cert.KernelIdeal.lit0t0_81 n
  | 82 => Cert.KernelIdeal.lit0t0_82 n
  | 83 => Cert.KernelIdeal.lit0t0_83 n
  | 84 => Cert.KernelIdeal.lit0t0_84 n
  | 85 => Cert.KernelIdeal.lit0t0_85 n
  | 86 => Cert.KernelIdeal.lit0t0_86 n
  | 87 => Cert.KernelIdeal.lit0t0_87 n
  | 88 => Cert.KernelIdeal.lit0t0_88 n
  | 89 => Cert.KernelIdeal.lit0t0_89 n
  | 90 => Cert.KernelIdeal.lit0t0_90 n
  | 91 => Cert.KernelIdeal.lit0t0_91 n
  | 92 => Cert.KernelIdeal.lit0t0_92 n
  | 93 => Cert.KernelIdeal.lit0t0_93 n
  | 94 => Cert.KernelIdeal.lit0t0_94 n
  | 95 => Cert.KernelIdeal.lit0t0_95 n
  | 96 => Cert.KernelIdeal.lit0t0_96 n
  | 97 => Cert.KernelIdeal.lit0t0_97 n
  | 98 => Cert.KernelIdeal.lit0t0_98 n
  | 99 => Cert.KernelIdeal.lit0t0_99 n
  | 100 => Cert.KernelIdeal.lit0t0_100 n
  | 101 => Cert.KernelIdeal.lit0t0_101 n
  | 102 => Cert.KernelIdeal.lit0t0_102 n
  | 103 => Cert.KernelIdeal.lit0t0_103 n
  | 104 => Cert.KernelIdeal.lit0t0_104 n
  | 105 => Cert.KernelIdeal.lit0t0_105 n
  | 106 => Cert.KernelIdeal.lit0t0_106 n
  | 107 => Cert.KernelIdeal.lit0t0_107 n
  | 108 => Cert.KernelIdeal.lit0t0_108 n
  | 109 => Cert.KernelIdeal.lit0t0_109 n
  | 110 => Cert.KernelIdeal.lit0t0_110 n
  | 111 => Cert.KernelIdeal.lit0t0_111 n
  | 112 => Cert.KernelIdeal.lit0t0_112 n
  | 113 => Cert.KernelIdeal.lit0t0_113 n
  | 114 => Cert.KernelIdeal.lit0t0_114 n
  | 115 => Cert.KernelIdeal.lit0t0_115 n
  | 116 => Cert.KernelIdeal.lit0t0_116 n
  | 117 => Cert.KernelIdeal.lit0t0_117 n
  | 118 => Cert.KernelIdeal.lit0t0_118 n
  | 119 => Cert.KernelIdeal.lit0t0_119 n
  | 120 => Cert.KernelIdeal.lit0t0_120 n
  | 121 => Cert.KernelIdeal.lit0t0_121 n
  | 122 => Cert.KernelIdeal.lit0t0_122 n
  | 123 => Cert.KernelIdeal.lit0t0_123 n
  | 124 => Cert.KernelIdeal.lit0t0_124 n
  | 125 => Cert.KernelIdeal.lit0t0_125 n
  | 126 => Cert.KernelIdeal.lit0t0_126 n
  | 127 => Cert.KernelIdeal.lit0t0_127 n
  | _ => 0#16

/-- Run `128 + b` of the kernel's table. -/
noncomputable def run1 (b n : ℕ) : BitVec 16 := match b with
  | 0 => Cert.KernelIdeal.lit0t0_128 n
  | 1 => Cert.KernelIdeal.lit0t0_129 n
  | 2 => Cert.KernelIdeal.lit0t0_130 n
  | 3 => Cert.KernelIdeal.lit0t0_131 n
  | 4 => Cert.KernelIdeal.lit0t0_132 n
  | 5 => Cert.KernelIdeal.lit0t0_133 n
  | 6 => Cert.KernelIdeal.lit0t0_134 n
  | 7 => Cert.KernelIdeal.lit0t0_135 n
  | 8 => Cert.KernelIdeal.lit0t0_136 n
  | 9 => Cert.KernelIdeal.lit0t0_137 n
  | 10 => Cert.KernelIdeal.lit0t0_138 n
  | 11 => Cert.KernelIdeal.lit0t0_139 n
  | 12 => Cert.KernelIdeal.lit0t0_140 n
  | 13 => Cert.KernelIdeal.lit0t0_141 n
  | 14 => Cert.KernelIdeal.lit0t0_142 n
  | 15 => Cert.KernelIdeal.lit0t0_143 n
  | 16 => Cert.KernelIdeal.lit0t0_144 n
  | 17 => Cert.KernelIdeal.lit0t0_145 n
  | 18 => Cert.KernelIdeal.lit0t0_146 n
  | 19 => Cert.KernelIdeal.lit0t0_147 n
  | 20 => Cert.KernelIdeal.lit0t0_148 n
  | 21 => Cert.KernelIdeal.lit0t0_149 n
  | 22 => Cert.KernelIdeal.lit0t0_150 n
  | 23 => Cert.KernelIdeal.lit0t0_151 n
  | 24 => Cert.KernelIdeal.lit0t0_152 n
  | 25 => Cert.KernelIdeal.lit0t0_153 n
  | 26 => Cert.KernelIdeal.lit0t0_154 n
  | 27 => Cert.KernelIdeal.lit0t0_155 n
  | 28 => Cert.KernelIdeal.lit0t0_156 n
  | 29 => Cert.KernelIdeal.lit0t0_157 n
  | 30 => Cert.KernelIdeal.lit0t0_158 n
  | 31 => Cert.KernelIdeal.lit0t0_159 n
  | 32 => Cert.KernelIdeal.lit0t0_160 n
  | 33 => Cert.KernelIdeal.lit0t0_161 n
  | 34 => Cert.KernelIdeal.lit0t0_162 n
  | 35 => Cert.KernelIdeal.lit0t0_163 n
  | 36 => Cert.KernelIdeal.lit0t0_164 n
  | 37 => Cert.KernelIdeal.lit0t0_165 n
  | 38 => Cert.KernelIdeal.lit0t0_166 n
  | 39 => Cert.KernelIdeal.lit0t0_167 n
  | 40 => Cert.KernelIdeal.lit0t0_168 n
  | 41 => Cert.KernelIdeal.lit0t0_169 n
  | 42 => Cert.KernelIdeal.lit0t0_170 n
  | 43 => Cert.KernelIdeal.lit0t0_171 n
  | 44 => Cert.KernelIdeal.lit0t0_172 n
  | 45 => Cert.KernelIdeal.lit0t0_173 n
  | 46 => Cert.KernelIdeal.lit0t0_174 n
  | 47 => Cert.KernelIdeal.lit0t0_175 n
  | 48 => Cert.KernelIdeal.lit0t0_176 n
  | 49 => Cert.KernelIdeal.lit0t0_177 n
  | 50 => Cert.KernelIdeal.lit0t0_178 n
  | 51 => Cert.KernelIdeal.lit0t0_179 n
  | 52 => Cert.KernelIdeal.lit0t0_180 n
  | 53 => Cert.KernelIdeal.lit0t0_181 n
  | 54 => Cert.KernelIdeal.lit0t0_182 n
  | 55 => Cert.KernelIdeal.lit0t0_183 n
  | 56 => Cert.KernelIdeal.lit0t0_184 n
  | 57 => Cert.KernelIdeal.lit0t0_185 n
  | 58 => Cert.KernelIdeal.lit0t0_186 n
  | 59 => Cert.KernelIdeal.lit0t0_187 n
  | 60 => Cert.KernelIdeal.lit0t0_188 n
  | 61 => Cert.KernelIdeal.lit0t0_189 n
  | 62 => Cert.KernelIdeal.lit0t0_190 n
  | 63 => Cert.KernelIdeal.lit0t0_191 n
  | 64 => Cert.KernelIdeal.lit0t0_192 n
  | 65 => Cert.KernelIdeal.lit0t0_193 n
  | 66 => Cert.KernelIdeal.lit0t0_194 n
  | 67 => Cert.KernelIdeal.lit0t0_195 n
  | 68 => Cert.KernelIdeal.lit0t0_196 n
  | 69 => Cert.KernelIdeal.lit0t0_197 n
  | 70 => Cert.KernelIdeal.lit0t0_198 n
  | 71 => Cert.KernelIdeal.lit0t0_199 n
  | 72 => Cert.KernelIdeal.lit0t0_200 n
  | 73 => Cert.KernelIdeal.lit0t0_201 n
  | 74 => Cert.KernelIdeal.lit0t0_202 n
  | 75 => Cert.KernelIdeal.lit0t0_203 n
  | 76 => Cert.KernelIdeal.lit0t0_204 n
  | 77 => Cert.KernelIdeal.lit0t0_205 n
  | 78 => Cert.KernelIdeal.lit0t0_206 n
  | 79 => Cert.KernelIdeal.lit0t0_207 n
  | 80 => Cert.KernelIdeal.lit0t0_208 n
  | 81 => Cert.KernelIdeal.lit0t0_209 n
  | 82 => Cert.KernelIdeal.lit0t0_210 n
  | 83 => Cert.KernelIdeal.lit0t0_211 n
  | 84 => Cert.KernelIdeal.lit0t0_212 n
  | 85 => Cert.KernelIdeal.lit0t0_213 n
  | 86 => Cert.KernelIdeal.lit0t0_214 n
  | 87 => Cert.KernelIdeal.lit0t0_215 n
  | 88 => Cert.KernelIdeal.lit0t0_216 n
  | 89 => Cert.KernelIdeal.lit0t0_217 n
  | 90 => Cert.KernelIdeal.lit0t0_218 n
  | 91 => Cert.KernelIdeal.lit0t0_219 n
  | 92 => Cert.KernelIdeal.lit0t0_220 n
  | 93 => Cert.KernelIdeal.lit0t0_221 n
  | 94 => Cert.KernelIdeal.lit0t0_222 n
  | 95 => Cert.KernelIdeal.lit0t0_223 n
  | 96 => Cert.KernelIdeal.lit0t0_224 n
  | 97 => Cert.KernelIdeal.lit0t0_225 n
  | 98 => Cert.KernelIdeal.lit0t0_226 n
  | 99 => Cert.KernelIdeal.lit0t0_227 n
  | 100 => Cert.KernelIdeal.lit0t0_228 n
  | 101 => Cert.KernelIdeal.lit0t0_229 n
  | 102 => Cert.KernelIdeal.lit0t0_230 n
  | 103 => Cert.KernelIdeal.lit0t0_231 n
  | 104 => Cert.KernelIdeal.lit0t0_232 n
  | 105 => Cert.KernelIdeal.lit0t0_233 n
  | 106 => Cert.KernelIdeal.lit0t0_234 n
  | 107 => Cert.KernelIdeal.lit0t0_235 n
  | 108 => Cert.KernelIdeal.lit0t0_236 n
  | 109 => Cert.KernelIdeal.lit0t0_237 n
  | 110 => Cert.KernelIdeal.lit0t0_238 n
  | 111 => Cert.KernelIdeal.lit0t0_239 n
  | 112 => Cert.KernelIdeal.lit0t0_240 n
  | 113 => Cert.KernelIdeal.lit0t0_241 n
  | 114 => Cert.KernelIdeal.lit0t0_242 n
  | 115 => Cert.KernelIdeal.lit0t0_243 n
  | 116 => Cert.KernelIdeal.lit0t0_244 n
  | 117 => Cert.KernelIdeal.lit0t0_245 n
  | 118 => Cert.KernelIdeal.lit0t0_246 n
  | 119 => Cert.KernelIdeal.lit0t0_247 n
  | 120 => Cert.KernelIdeal.lit0t0_248 n
  | 121 => Cert.KernelIdeal.lit0t0_249 n
  | 122 => Cert.KernelIdeal.lit0t0_250 n
  | 123 => Cert.KernelIdeal.lit0t0_251 n
  | 124 => Cert.KernelIdeal.lit0t0_252 n
  | 125 => Cert.KernelIdeal.lit0t0_253 n
  | 126 => Cert.KernelIdeal.lit0t0_254 n
  | 127 => Cert.KernelIdeal.lit0t0_255 n
  | _ => 0#16

/-- Run `256 + b` of the kernel's table. -/
noncomputable def run2 (b n : ℕ) : BitVec 16 := match b with
  | 0 => Cert.KernelIdeal.lit0t0_256 n
  | 1 => Cert.KernelIdeal.lit0t0_257 n
  | 2 => Cert.KernelIdeal.lit0t0_258 n
  | 3 => Cert.KernelIdeal.lit0t0_259 n
  | 4 => Cert.KernelIdeal.lit0t0_260 n
  | 5 => Cert.KernelIdeal.lit0t0_261 n
  | 6 => Cert.KernelIdeal.lit0t0_262 n
  | 7 => Cert.KernelIdeal.lit0t0_263 n
  | 8 => Cert.KernelIdeal.lit0t0_264 n
  | 9 => Cert.KernelIdeal.lit0t0_265 n
  | 10 => Cert.KernelIdeal.lit0t0_266 n
  | 11 => Cert.KernelIdeal.lit0t0_267 n
  | 12 => Cert.KernelIdeal.lit0t0_268 n
  | 13 => Cert.KernelIdeal.lit0t0_269 n
  | 14 => Cert.KernelIdeal.lit0t0_270 n
  | 15 => Cert.KernelIdeal.lit0t0_271 n
  | 16 => Cert.KernelIdeal.lit0t0_272 n
  | 17 => Cert.KernelIdeal.lit0t0_273 n
  | 18 => Cert.KernelIdeal.lit0t0_274 n
  | 19 => Cert.KernelIdeal.lit0t0_275 n
  | 20 => Cert.KernelIdeal.lit0t0_276 n
  | 21 => Cert.KernelIdeal.lit0t0_277 n
  | 22 => Cert.KernelIdeal.lit0t0_278 n
  | 23 => Cert.KernelIdeal.lit0t0_279 n
  | 24 => Cert.KernelIdeal.lit0t0_280 n
  | 25 => Cert.KernelIdeal.lit0t0_281 n
  | 26 => Cert.KernelIdeal.lit0t0_282 n
  | 27 => Cert.KernelIdeal.lit0t0_283 n
  | 28 => Cert.KernelIdeal.lit0t0_284 n
  | 29 => Cert.KernelIdeal.lit0t0_285 n
  | 30 => Cert.KernelIdeal.lit0t0_286 n
  | 31 => Cert.KernelIdeal.lit0t0_287 n
  | 32 => Cert.KernelIdeal.lit0t0_288 n
  | 33 => Cert.KernelIdeal.lit0t0_289 n
  | 34 => Cert.KernelIdeal.lit0t0_290 n
  | 35 => Cert.KernelIdeal.lit0t0_291 n
  | 36 => Cert.KernelIdeal.lit0t0_292 n
  | 37 => Cert.KernelIdeal.lit0t0_293 n
  | 38 => Cert.KernelIdeal.lit0t0_294 n
  | 39 => Cert.KernelIdeal.lit0t0_295 n
  | 40 => Cert.KernelIdeal.lit0t0_296 n
  | 41 => Cert.KernelIdeal.lit0t0_297 n
  | 42 => Cert.KernelIdeal.lit0t0_298 n
  | 43 => Cert.KernelIdeal.lit0t0_299 n
  | 44 => Cert.KernelIdeal.lit0t0_300 n
  | 45 => Cert.KernelIdeal.lit0t0_301 n
  | 46 => Cert.KernelIdeal.lit0t0_302 n
  | 47 => Cert.KernelIdeal.lit0t0_303 n
  | 48 => Cert.KernelIdeal.lit0t0_304 n
  | 49 => Cert.KernelIdeal.lit0t0_305 n
  | 50 => Cert.KernelIdeal.lit0t0_306 n
  | 51 => Cert.KernelIdeal.lit0t0_307 n
  | 52 => Cert.KernelIdeal.lit0t0_308 n
  | 53 => Cert.KernelIdeal.lit0t0_309 n
  | 54 => Cert.KernelIdeal.lit0t0_310 n
  | 55 => Cert.KernelIdeal.lit0t0_311 n
  | 56 => Cert.KernelIdeal.lit0t0_312 n
  | 57 => Cert.KernelIdeal.lit0t0_313 n
  | 58 => Cert.KernelIdeal.lit0t0_314 n
  | 59 => Cert.KernelIdeal.lit0t0_315 n
  | 60 => Cert.KernelIdeal.lit0t0_316 n
  | 61 => Cert.KernelIdeal.lit0t0_317 n
  | 62 => Cert.KernelIdeal.lit0t0_318 n
  | 63 => Cert.KernelIdeal.lit0t0_319 n
  | 64 => Cert.KernelIdeal.lit0t0_320 n
  | 65 => Cert.KernelIdeal.lit0t0_321 n
  | 66 => Cert.KernelIdeal.lit0t0_322 n
  | 67 => Cert.KernelIdeal.lit0t0_323 n
  | 68 => Cert.KernelIdeal.lit0t0_324 n
  | 69 => Cert.KernelIdeal.lit0t0_325 n
  | 70 => Cert.KernelIdeal.lit0t0_326 n
  | 71 => Cert.KernelIdeal.lit0t0_327 n
  | 72 => Cert.KernelIdeal.lit0t0_328 n
  | 73 => Cert.KernelIdeal.lit0t0_329 n
  | 74 => Cert.KernelIdeal.lit0t0_330 n
  | 75 => Cert.KernelIdeal.lit0t0_331 n
  | 76 => Cert.KernelIdeal.lit0t0_332 n
  | 77 => Cert.KernelIdeal.lit0t0_333 n
  | 78 => Cert.KernelIdeal.lit0t0_334 n
  | 79 => Cert.KernelIdeal.lit0t0_335 n
  | 80 => Cert.KernelIdeal.lit0t0_336 n
  | 81 => Cert.KernelIdeal.lit0t0_337 n
  | 82 => Cert.KernelIdeal.lit0t0_338 n
  | 83 => Cert.KernelIdeal.lit0t0_339 n
  | 84 => Cert.KernelIdeal.lit0t0_340 n
  | 85 => Cert.KernelIdeal.lit0t0_341 n
  | 86 => Cert.KernelIdeal.lit0t0_342 n
  | 87 => Cert.KernelIdeal.lit0t0_343 n
  | 88 => Cert.KernelIdeal.lit0t0_344 n
  | 89 => Cert.KernelIdeal.lit0t0_345 n
  | 90 => Cert.KernelIdeal.lit0t0_346 n
  | 91 => Cert.KernelIdeal.lit0t0_347 n
  | 92 => Cert.KernelIdeal.lit0t0_348 n
  | 93 => Cert.KernelIdeal.lit0t0_349 n
  | 94 => Cert.KernelIdeal.lit0t0_350 n
  | 95 => Cert.KernelIdeal.lit0t0_351 n
  | 96 => Cert.KernelIdeal.lit0t0_352 n
  | 97 => Cert.KernelIdeal.lit0t0_353 n
  | 98 => Cert.KernelIdeal.lit0t0_354 n
  | 99 => Cert.KernelIdeal.lit0t0_355 n
  | 100 => Cert.KernelIdeal.lit0t0_356 n
  | 101 => Cert.KernelIdeal.lit0t0_357 n
  | 102 => Cert.KernelIdeal.lit0t0_358 n
  | 103 => Cert.KernelIdeal.lit0t0_359 n
  | 104 => Cert.KernelIdeal.lit0t0_360 n
  | 105 => Cert.KernelIdeal.lit0t0_361 n
  | 106 => Cert.KernelIdeal.lit0t0_362 n
  | 107 => Cert.KernelIdeal.lit0t0_363 n
  | 108 => Cert.KernelIdeal.lit0t0_364 n
  | 109 => Cert.KernelIdeal.lit0t0_365 n
  | 110 => Cert.KernelIdeal.lit0t0_366 n
  | 111 => Cert.KernelIdeal.lit0t0_367 n
  | 112 => Cert.KernelIdeal.lit0t0_368 n
  | 113 => Cert.KernelIdeal.lit0t0_369 n
  | 114 => Cert.KernelIdeal.lit0t0_370 n
  | 115 => Cert.KernelIdeal.lit0t0_371 n
  | 116 => Cert.KernelIdeal.lit0t0_372 n
  | 117 => Cert.KernelIdeal.lit0t0_373 n
  | 118 => Cert.KernelIdeal.lit0t0_374 n
  | 119 => Cert.KernelIdeal.lit0t0_375 n
  | 120 => Cert.KernelIdeal.lit0t0_376 n
  | 121 => Cert.KernelIdeal.lit0t0_377 n
  | 122 => Cert.KernelIdeal.lit0t0_378 n
  | 123 => Cert.KernelIdeal.lit0t0_379 n
  | 124 => Cert.KernelIdeal.lit0t0_380 n
  | 125 => Cert.KernelIdeal.lit0t0_381 n
  | 126 => Cert.KernelIdeal.lit0t0_382 n
  | 127 => Cert.KernelIdeal.lit0t0_383 n
  | _ => 0#16

/-- Run `384 + b` of the kernel's table. -/
noncomputable def run3 (b n : ℕ) : BitVec 16 := match b with
  | 0 => Cert.KernelIdeal.lit0t0_384 n
  | 1 => Cert.KernelIdeal.lit0t0_385 n
  | 2 => Cert.KernelIdeal.lit0t0_386 n
  | 3 => Cert.KernelIdeal.lit0t0_387 n
  | 4 => Cert.KernelIdeal.lit0t0_388 n
  | 5 => Cert.KernelIdeal.lit0t0_389 n
  | 6 => Cert.KernelIdeal.lit0t0_390 n
  | 7 => Cert.KernelIdeal.lit0t0_391 n
  | 8 => Cert.KernelIdeal.lit0t0_392 n
  | 9 => Cert.KernelIdeal.lit0t0_393 n
  | 10 => Cert.KernelIdeal.lit0t0_394 n
  | 11 => Cert.KernelIdeal.lit0t0_395 n
  | 12 => Cert.KernelIdeal.lit0t0_396 n
  | 13 => Cert.KernelIdeal.lit0t0_397 n
  | 14 => Cert.KernelIdeal.lit0t0_398 n
  | 15 => Cert.KernelIdeal.lit0t0_399 n
  | 16 => Cert.KernelIdeal.lit0t0_400 n
  | 17 => Cert.KernelIdeal.lit0t0_401 n
  | 18 => Cert.KernelIdeal.lit0t0_402 n
  | 19 => Cert.KernelIdeal.lit0t0_403 n
  | 20 => Cert.KernelIdeal.lit0t0_404 n
  | 21 => Cert.KernelIdeal.lit0t0_405 n
  | 22 => Cert.KernelIdeal.lit0t0_406 n
  | 23 => Cert.KernelIdeal.lit0t0_407 n
  | 24 => Cert.KernelIdeal.lit0t0_408 n
  | 25 => Cert.KernelIdeal.lit0t0_409 n
  | 26 => Cert.KernelIdeal.lit0t0_410 n
  | 27 => Cert.KernelIdeal.lit0t0_411 n
  | 28 => Cert.KernelIdeal.lit0t0_412 n
  | 29 => Cert.KernelIdeal.lit0t0_413 n
  | 30 => Cert.KernelIdeal.lit0t0_414 n
  | 31 => Cert.KernelIdeal.lit0t0_415 n
  | 32 => Cert.KernelIdeal.lit0t0_416 n
  | 33 => Cert.KernelIdeal.lit0t0_417 n
  | 34 => Cert.KernelIdeal.lit0t0_418 n
  | 35 => Cert.KernelIdeal.lit0t0_419 n
  | 36 => Cert.KernelIdeal.lit0t0_420 n
  | 37 => Cert.KernelIdeal.lit0t0_421 n
  | 38 => Cert.KernelIdeal.lit0t0_422 n
  | 39 => Cert.KernelIdeal.lit0t0_423 n
  | 40 => Cert.KernelIdeal.lit0t0_424 n
  | 41 => Cert.KernelIdeal.lit0t0_425 n
  | 42 => Cert.KernelIdeal.lit0t0_426 n
  | 43 => Cert.KernelIdeal.lit0t0_427 n
  | 44 => Cert.KernelIdeal.lit0t0_428 n
  | 45 => Cert.KernelIdeal.lit0t0_429 n
  | 46 => Cert.KernelIdeal.lit0t0_430 n
  | 47 => Cert.KernelIdeal.lit0t0_431 n
  | 48 => Cert.KernelIdeal.lit0t0_432 n
  | 49 => Cert.KernelIdeal.lit0t0_433 n
  | 50 => Cert.KernelIdeal.lit0t0_434 n
  | 51 => Cert.KernelIdeal.lit0t0_435 n
  | 52 => Cert.KernelIdeal.lit0t0_436 n
  | 53 => Cert.KernelIdeal.lit0t0_437 n
  | 54 => Cert.KernelIdeal.lit0t0_438 n
  | 55 => Cert.KernelIdeal.lit0t0_439 n
  | 56 => Cert.KernelIdeal.lit0t0_440 n
  | 57 => Cert.KernelIdeal.lit0t0_441 n
  | 58 => Cert.KernelIdeal.lit0t0_442 n
  | 59 => Cert.KernelIdeal.lit0t0_443 n
  | 60 => Cert.KernelIdeal.lit0t0_444 n
  | 61 => Cert.KernelIdeal.lit0t0_445 n
  | 62 => Cert.KernelIdeal.lit0t0_446 n
  | 63 => Cert.KernelIdeal.lit0t0_447 n
  | 64 => Cert.KernelIdeal.lit0t0_448 n
  | 65 => Cert.KernelIdeal.lit0t0_449 n
  | 66 => Cert.KernelIdeal.lit0t0_450 n
  | 67 => Cert.KernelIdeal.lit0t0_451 n
  | 68 => Cert.KernelIdeal.lit0t0_452 n
  | 69 => Cert.KernelIdeal.lit0t0_453 n
  | 70 => Cert.KernelIdeal.lit0t0_454 n
  | 71 => Cert.KernelIdeal.lit0t0_455 n
  | 72 => Cert.KernelIdeal.lit0t0_456 n
  | 73 => Cert.KernelIdeal.lit0t0_457 n
  | 74 => Cert.KernelIdeal.lit0t0_458 n
  | 75 => Cert.KernelIdeal.lit0t0_459 n
  | 76 => Cert.KernelIdeal.lit0t0_460 n
  | 77 => Cert.KernelIdeal.lit0t0_461 n
  | 78 => Cert.KernelIdeal.lit0t0_462 n
  | 79 => Cert.KernelIdeal.lit0t0_463 n
  | 80 => Cert.KernelIdeal.lit0t0_464 n
  | 81 => Cert.KernelIdeal.lit0t0_465 n
  | 82 => Cert.KernelIdeal.lit0t0_466 n
  | 83 => Cert.KernelIdeal.lit0t0_467 n
  | 84 => Cert.KernelIdeal.lit0t0_468 n
  | 85 => Cert.KernelIdeal.lit0t0_469 n
  | 86 => Cert.KernelIdeal.lit0t0_470 n
  | 87 => Cert.KernelIdeal.lit0t0_471 n
  | 88 => Cert.KernelIdeal.lit0t0_472 n
  | 89 => Cert.KernelIdeal.lit0t0_473 n
  | 90 => Cert.KernelIdeal.lit0t0_474 n
  | 91 => Cert.KernelIdeal.lit0t0_475 n
  | 92 => Cert.KernelIdeal.lit0t0_476 n
  | 93 => Cert.KernelIdeal.lit0t0_477 n
  | 94 => Cert.KernelIdeal.lit0t0_478 n
  | 95 => Cert.KernelIdeal.lit0t0_479 n
  | 96 => Cert.KernelIdeal.lit0t0_480 n
  | 97 => Cert.KernelIdeal.lit0t0_481 n
  | 98 => Cert.KernelIdeal.lit0t0_482 n
  | 99 => Cert.KernelIdeal.lit0t0_483 n
  | 100 => Cert.KernelIdeal.lit0t0_484 n
  | 101 => Cert.KernelIdeal.lit0t0_485 n
  | 102 => Cert.KernelIdeal.lit0t0_486 n
  | 103 => Cert.KernelIdeal.lit0t0_487 n
  | 104 => Cert.KernelIdeal.lit0t0_488 n
  | 105 => Cert.KernelIdeal.lit0t0_489 n
  | 106 => Cert.KernelIdeal.lit0t0_490 n
  | 107 => Cert.KernelIdeal.lit0t0_491 n
  | 108 => Cert.KernelIdeal.lit0t0_492 n
  | 109 => Cert.KernelIdeal.lit0t0_493 n
  | 110 => Cert.KernelIdeal.lit0t0_494 n
  | 111 => Cert.KernelIdeal.lit0t0_495 n
  | 112 => Cert.KernelIdeal.lit0t0_496 n
  | 113 => Cert.KernelIdeal.lit0t0_497 n
  | 114 => Cert.KernelIdeal.lit0t0_498 n
  | 115 => Cert.KernelIdeal.lit0t0_499 n
  | 116 => Cert.KernelIdeal.lit0t0_500 n
  | 117 => Cert.KernelIdeal.lit0t0_501 n
  | 118 => Cert.KernelIdeal.lit0t0_502 n
  | 119 => Cert.KernelIdeal.lit0t0_503 n
  | 120 => Cert.KernelIdeal.lit0t0_504 n
  | 121 => Cert.KernelIdeal.lit0t0_505 n
  | 122 => Cert.KernelIdeal.lit0t0_506 n
  | 123 => Cert.KernelIdeal.lit0t0_507 n
  | 124 => Cert.KernelIdeal.lit0t0_508 n
  | 125 => Cert.KernelIdeal.lit0t0_509 n
  | 126 => Cert.KernelIdeal.lit0t0_510 n
  | 127 => Cert.KernelIdeal.lit0t0_511 n
  | _ => 0#16

/-- Run `r` of the reference's table: its row `r`. -/
noncomputable def rowRun (r n : ℕ) : BitVec 16 := match r with
  | 0 => Cert.ReferenceIdeal.lit0t0_0 n
  | 1 => Cert.ReferenceIdeal.lit0t0_1 n
  | 2 => Cert.ReferenceIdeal.lit0t0_2 n
  | 3 => Cert.ReferenceIdeal.lit0t0_3 n
  | 4 => Cert.ReferenceIdeal.lit0t0_4 n
  | 5 => Cert.ReferenceIdeal.lit0t0_5 n
  | 6 => Cert.ReferenceIdeal.lit0t0_6 n
  | 7 => Cert.ReferenceIdeal.lit0t0_7 n
  | 8 => Cert.ReferenceIdeal.lit0t0_8 n
  | 9 => Cert.ReferenceIdeal.lit0t0_9 n
  | 10 => Cert.ReferenceIdeal.lit0t0_10 n
  | 11 => Cert.ReferenceIdeal.lit0t0_11 n
  | 12 => Cert.ReferenceIdeal.lit0t0_12 n
  | 13 => Cert.ReferenceIdeal.lit0t0_13 n
  | 14 => Cert.ReferenceIdeal.lit0t0_14 n
  | 15 => Cert.ReferenceIdeal.lit0t0_15 n
  | 16 => Cert.ReferenceIdeal.lit0t0_16 n
  | 17 => Cert.ReferenceIdeal.lit0t0_17 n
  | 18 => Cert.ReferenceIdeal.lit0t0_18 n
  | 19 => Cert.ReferenceIdeal.lit0t0_19 n
  | 20 => Cert.ReferenceIdeal.lit0t0_20 n
  | 21 => Cert.ReferenceIdeal.lit0t0_21 n
  | 22 => Cert.ReferenceIdeal.lit0t0_22 n
  | 23 => Cert.ReferenceIdeal.lit0t0_23 n
  | 24 => Cert.ReferenceIdeal.lit0t0_24 n
  | 25 => Cert.ReferenceIdeal.lit0t0_25 n
  | 26 => Cert.ReferenceIdeal.lit0t0_26 n
  | 27 => Cert.ReferenceIdeal.lit0t0_27 n
  | 28 => Cert.ReferenceIdeal.lit0t0_28 n
  | 29 => Cert.ReferenceIdeal.lit0t0_29 n
  | 30 => Cert.ReferenceIdeal.lit0t0_30 n
  | 31 => Cert.ReferenceIdeal.lit0t0_31 n
  | 32 => Cert.ReferenceIdeal.lit0t0_32 n
  | 33 => Cert.ReferenceIdeal.lit0t0_33 n
  | 34 => Cert.ReferenceIdeal.lit0t0_34 n
  | 35 => Cert.ReferenceIdeal.lit0t0_35 n
  | 36 => Cert.ReferenceIdeal.lit0t0_36 n
  | 37 => Cert.ReferenceIdeal.lit0t0_37 n
  | 38 => Cert.ReferenceIdeal.lit0t0_38 n
  | 39 => Cert.ReferenceIdeal.lit0t0_39 n
  | 40 => Cert.ReferenceIdeal.lit0t0_40 n
  | 41 => Cert.ReferenceIdeal.lit0t0_41 n
  | 42 => Cert.ReferenceIdeal.lit0t0_42 n
  | 43 => Cert.ReferenceIdeal.lit0t0_43 n
  | 44 => Cert.ReferenceIdeal.lit0t0_44 n
  | 45 => Cert.ReferenceIdeal.lit0t0_45 n
  | 46 => Cert.ReferenceIdeal.lit0t0_46 n
  | 47 => Cert.ReferenceIdeal.lit0t0_47 n
  | 48 => Cert.ReferenceIdeal.lit0t0_48 n
  | 49 => Cert.ReferenceIdeal.lit0t0_49 n
  | 50 => Cert.ReferenceIdeal.lit0t0_50 n
  | 51 => Cert.ReferenceIdeal.lit0t0_51 n
  | 52 => Cert.ReferenceIdeal.lit0t0_52 n
  | 53 => Cert.ReferenceIdeal.lit0t0_53 n
  | 54 => Cert.ReferenceIdeal.lit0t0_54 n
  | 55 => Cert.ReferenceIdeal.lit0t0_55 n
  | 56 => Cert.ReferenceIdeal.lit0t0_56 n
  | 57 => Cert.ReferenceIdeal.lit0t0_57 n
  | 58 => Cert.ReferenceIdeal.lit0t0_58 n
  | 59 => Cert.ReferenceIdeal.lit0t0_59 n
  | 60 => Cert.ReferenceIdeal.lit0t0_60 n
  | 61 => Cert.ReferenceIdeal.lit0t0_61 n
  | 62 => Cert.ReferenceIdeal.lit0t0_62 n
  | 63 => Cert.ReferenceIdeal.lit0t0_63 n
  | 64 => Cert.ReferenceIdeal.lit0t0_64 n
  | 65 => Cert.ReferenceIdeal.lit0t0_65 n
  | 66 => Cert.ReferenceIdeal.lit0t0_66 n
  | 67 => Cert.ReferenceIdeal.lit0t0_67 n
  | 68 => Cert.ReferenceIdeal.lit0t0_68 n
  | 69 => Cert.ReferenceIdeal.lit0t0_69 n
  | 70 => Cert.ReferenceIdeal.lit0t0_70 n
  | 71 => Cert.ReferenceIdeal.lit0t0_71 n
  | 72 => Cert.ReferenceIdeal.lit0t0_72 n
  | 73 => Cert.ReferenceIdeal.lit0t0_73 n
  | 74 => Cert.ReferenceIdeal.lit0t0_74 n
  | 75 => Cert.ReferenceIdeal.lit0t0_75 n
  | 76 => Cert.ReferenceIdeal.lit0t0_76 n
  | 77 => Cert.ReferenceIdeal.lit0t0_77 n
  | 78 => Cert.ReferenceIdeal.lit0t0_78 n
  | 79 => Cert.ReferenceIdeal.lit0t0_79 n
  | 80 => Cert.ReferenceIdeal.lit0t0_80 n
  | 81 => Cert.ReferenceIdeal.lit0t0_81 n
  | 82 => Cert.ReferenceIdeal.lit0t0_82 n
  | 83 => Cert.ReferenceIdeal.lit0t0_83 n
  | 84 => Cert.ReferenceIdeal.lit0t0_84 n
  | 85 => Cert.ReferenceIdeal.lit0t0_85 n
  | 86 => Cert.ReferenceIdeal.lit0t0_86 n
  | 87 => Cert.ReferenceIdeal.lit0t0_87 n
  | 88 => Cert.ReferenceIdeal.lit0t0_88 n
  | 89 => Cert.ReferenceIdeal.lit0t0_89 n
  | 90 => Cert.ReferenceIdeal.lit0t0_90 n
  | 91 => Cert.ReferenceIdeal.lit0t0_91 n
  | 92 => Cert.ReferenceIdeal.lit0t0_92 n
  | 93 => Cert.ReferenceIdeal.lit0t0_93 n
  | 94 => Cert.ReferenceIdeal.lit0t0_94 n
  | 95 => Cert.ReferenceIdeal.lit0t0_95 n
  | 96 => Cert.ReferenceIdeal.lit0t0_96 n
  | 97 => Cert.ReferenceIdeal.lit0t0_97 n
  | 98 => Cert.ReferenceIdeal.lit0t0_98 n
  | 99 => Cert.ReferenceIdeal.lit0t0_99 n
  | 100 => Cert.ReferenceIdeal.lit0t0_100 n
  | 101 => Cert.ReferenceIdeal.lit0t0_101 n
  | 102 => Cert.ReferenceIdeal.lit0t0_102 n
  | 103 => Cert.ReferenceIdeal.lit0t0_103 n
  | 104 => Cert.ReferenceIdeal.lit0t0_104 n
  | 105 => Cert.ReferenceIdeal.lit0t0_105 n
  | 106 => Cert.ReferenceIdeal.lit0t0_106 n
  | 107 => Cert.ReferenceIdeal.lit0t0_107 n
  | 108 => Cert.ReferenceIdeal.lit0t0_108 n
  | 109 => Cert.ReferenceIdeal.lit0t0_109 n
  | 110 => Cert.ReferenceIdeal.lit0t0_110 n
  | 111 => Cert.ReferenceIdeal.lit0t0_111 n
  | 112 => Cert.ReferenceIdeal.lit0t0_112 n
  | 113 => Cert.ReferenceIdeal.lit0t0_113 n
  | 114 => Cert.ReferenceIdeal.lit0t0_114 n
  | 115 => Cert.ReferenceIdeal.lit0t0_115 n
  | 116 => Cert.ReferenceIdeal.lit0t0_116 n
  | 117 => Cert.ReferenceIdeal.lit0t0_117 n
  | 118 => Cert.ReferenceIdeal.lit0t0_118 n
  | 119 => Cert.ReferenceIdeal.lit0t0_119 n
  | 120 => Cert.ReferenceIdeal.lit0t0_120 n
  | 121 => Cert.ReferenceIdeal.lit0t0_121 n
  | 122 => Cert.ReferenceIdeal.lit0t0_122 n
  | 123 => Cert.ReferenceIdeal.lit0t0_123 n
  | 124 => Cert.ReferenceIdeal.lit0t0_124 n
  | 125 => Cert.ReferenceIdeal.lit0t0_125 n
  | 126 => Cert.ReferenceIdeal.lit0t0_126 n
  | 127 => Cert.ReferenceIdeal.lit0t0_127 n
  | _ => 0#16

/-- A run of the reference reads its position modulo 128. -/
theorem rowRun_mod (r n m : ℕ) (h : n % 128 = m % 128) : rowRun r n = rowRun r m := match r with
  | 0 => by show Cert.ReferenceIdeal.lit0t0_0 n = Cert.ReferenceIdeal.lit0t0_0 m; unfold Cert.ReferenceIdeal.lit0t0_0; rw [h]
  | 1 => by show Cert.ReferenceIdeal.lit0t0_1 n = Cert.ReferenceIdeal.lit0t0_1 m; unfold Cert.ReferenceIdeal.lit0t0_1; rw [h]
  | 2 => by show Cert.ReferenceIdeal.lit0t0_2 n = Cert.ReferenceIdeal.lit0t0_2 m; unfold Cert.ReferenceIdeal.lit0t0_2; rw [h]
  | 3 => by show Cert.ReferenceIdeal.lit0t0_3 n = Cert.ReferenceIdeal.lit0t0_3 m; unfold Cert.ReferenceIdeal.lit0t0_3; rw [h]
  | 4 => by show Cert.ReferenceIdeal.lit0t0_4 n = Cert.ReferenceIdeal.lit0t0_4 m; unfold Cert.ReferenceIdeal.lit0t0_4; rw [h]
  | 5 => by show Cert.ReferenceIdeal.lit0t0_5 n = Cert.ReferenceIdeal.lit0t0_5 m; unfold Cert.ReferenceIdeal.lit0t0_5; rw [h]
  | 6 => by show Cert.ReferenceIdeal.lit0t0_6 n = Cert.ReferenceIdeal.lit0t0_6 m; unfold Cert.ReferenceIdeal.lit0t0_6; rw [h]
  | 7 => by show Cert.ReferenceIdeal.lit0t0_7 n = Cert.ReferenceIdeal.lit0t0_7 m; unfold Cert.ReferenceIdeal.lit0t0_7; rw [h]
  | 8 => by show Cert.ReferenceIdeal.lit0t0_8 n = Cert.ReferenceIdeal.lit0t0_8 m; unfold Cert.ReferenceIdeal.lit0t0_8; rw [h]
  | 9 => by show Cert.ReferenceIdeal.lit0t0_9 n = Cert.ReferenceIdeal.lit0t0_9 m; unfold Cert.ReferenceIdeal.lit0t0_9; rw [h]
  | 10 => by show Cert.ReferenceIdeal.lit0t0_10 n = Cert.ReferenceIdeal.lit0t0_10 m; unfold Cert.ReferenceIdeal.lit0t0_10; rw [h]
  | 11 => by show Cert.ReferenceIdeal.lit0t0_11 n = Cert.ReferenceIdeal.lit0t0_11 m; unfold Cert.ReferenceIdeal.lit0t0_11; rw [h]
  | 12 => by show Cert.ReferenceIdeal.lit0t0_12 n = Cert.ReferenceIdeal.lit0t0_12 m; unfold Cert.ReferenceIdeal.lit0t0_12; rw [h]
  | 13 => by show Cert.ReferenceIdeal.lit0t0_13 n = Cert.ReferenceIdeal.lit0t0_13 m; unfold Cert.ReferenceIdeal.lit0t0_13; rw [h]
  | 14 => by show Cert.ReferenceIdeal.lit0t0_14 n = Cert.ReferenceIdeal.lit0t0_14 m; unfold Cert.ReferenceIdeal.lit0t0_14; rw [h]
  | 15 => by show Cert.ReferenceIdeal.lit0t0_15 n = Cert.ReferenceIdeal.lit0t0_15 m; unfold Cert.ReferenceIdeal.lit0t0_15; rw [h]
  | 16 => by show Cert.ReferenceIdeal.lit0t0_16 n = Cert.ReferenceIdeal.lit0t0_16 m; unfold Cert.ReferenceIdeal.lit0t0_16; rw [h]
  | 17 => by show Cert.ReferenceIdeal.lit0t0_17 n = Cert.ReferenceIdeal.lit0t0_17 m; unfold Cert.ReferenceIdeal.lit0t0_17; rw [h]
  | 18 => by show Cert.ReferenceIdeal.lit0t0_18 n = Cert.ReferenceIdeal.lit0t0_18 m; unfold Cert.ReferenceIdeal.lit0t0_18; rw [h]
  | 19 => by show Cert.ReferenceIdeal.lit0t0_19 n = Cert.ReferenceIdeal.lit0t0_19 m; unfold Cert.ReferenceIdeal.lit0t0_19; rw [h]
  | 20 => by show Cert.ReferenceIdeal.lit0t0_20 n = Cert.ReferenceIdeal.lit0t0_20 m; unfold Cert.ReferenceIdeal.lit0t0_20; rw [h]
  | 21 => by show Cert.ReferenceIdeal.lit0t0_21 n = Cert.ReferenceIdeal.lit0t0_21 m; unfold Cert.ReferenceIdeal.lit0t0_21; rw [h]
  | 22 => by show Cert.ReferenceIdeal.lit0t0_22 n = Cert.ReferenceIdeal.lit0t0_22 m; unfold Cert.ReferenceIdeal.lit0t0_22; rw [h]
  | 23 => by show Cert.ReferenceIdeal.lit0t0_23 n = Cert.ReferenceIdeal.lit0t0_23 m; unfold Cert.ReferenceIdeal.lit0t0_23; rw [h]
  | 24 => by show Cert.ReferenceIdeal.lit0t0_24 n = Cert.ReferenceIdeal.lit0t0_24 m; unfold Cert.ReferenceIdeal.lit0t0_24; rw [h]
  | 25 => by show Cert.ReferenceIdeal.lit0t0_25 n = Cert.ReferenceIdeal.lit0t0_25 m; unfold Cert.ReferenceIdeal.lit0t0_25; rw [h]
  | 26 => by show Cert.ReferenceIdeal.lit0t0_26 n = Cert.ReferenceIdeal.lit0t0_26 m; unfold Cert.ReferenceIdeal.lit0t0_26; rw [h]
  | 27 => by show Cert.ReferenceIdeal.lit0t0_27 n = Cert.ReferenceIdeal.lit0t0_27 m; unfold Cert.ReferenceIdeal.lit0t0_27; rw [h]
  | 28 => by show Cert.ReferenceIdeal.lit0t0_28 n = Cert.ReferenceIdeal.lit0t0_28 m; unfold Cert.ReferenceIdeal.lit0t0_28; rw [h]
  | 29 => by show Cert.ReferenceIdeal.lit0t0_29 n = Cert.ReferenceIdeal.lit0t0_29 m; unfold Cert.ReferenceIdeal.lit0t0_29; rw [h]
  | 30 => by show Cert.ReferenceIdeal.lit0t0_30 n = Cert.ReferenceIdeal.lit0t0_30 m; unfold Cert.ReferenceIdeal.lit0t0_30; rw [h]
  | 31 => by show Cert.ReferenceIdeal.lit0t0_31 n = Cert.ReferenceIdeal.lit0t0_31 m; unfold Cert.ReferenceIdeal.lit0t0_31; rw [h]
  | 32 => by show Cert.ReferenceIdeal.lit0t0_32 n = Cert.ReferenceIdeal.lit0t0_32 m; unfold Cert.ReferenceIdeal.lit0t0_32; rw [h]
  | 33 => by show Cert.ReferenceIdeal.lit0t0_33 n = Cert.ReferenceIdeal.lit0t0_33 m; unfold Cert.ReferenceIdeal.lit0t0_33; rw [h]
  | 34 => by show Cert.ReferenceIdeal.lit0t0_34 n = Cert.ReferenceIdeal.lit0t0_34 m; unfold Cert.ReferenceIdeal.lit0t0_34; rw [h]
  | 35 => by show Cert.ReferenceIdeal.lit0t0_35 n = Cert.ReferenceIdeal.lit0t0_35 m; unfold Cert.ReferenceIdeal.lit0t0_35; rw [h]
  | 36 => by show Cert.ReferenceIdeal.lit0t0_36 n = Cert.ReferenceIdeal.lit0t0_36 m; unfold Cert.ReferenceIdeal.lit0t0_36; rw [h]
  | 37 => by show Cert.ReferenceIdeal.lit0t0_37 n = Cert.ReferenceIdeal.lit0t0_37 m; unfold Cert.ReferenceIdeal.lit0t0_37; rw [h]
  | 38 => by show Cert.ReferenceIdeal.lit0t0_38 n = Cert.ReferenceIdeal.lit0t0_38 m; unfold Cert.ReferenceIdeal.lit0t0_38; rw [h]
  | 39 => by show Cert.ReferenceIdeal.lit0t0_39 n = Cert.ReferenceIdeal.lit0t0_39 m; unfold Cert.ReferenceIdeal.lit0t0_39; rw [h]
  | 40 => by show Cert.ReferenceIdeal.lit0t0_40 n = Cert.ReferenceIdeal.lit0t0_40 m; unfold Cert.ReferenceIdeal.lit0t0_40; rw [h]
  | 41 => by show Cert.ReferenceIdeal.lit0t0_41 n = Cert.ReferenceIdeal.lit0t0_41 m; unfold Cert.ReferenceIdeal.lit0t0_41; rw [h]
  | 42 => by show Cert.ReferenceIdeal.lit0t0_42 n = Cert.ReferenceIdeal.lit0t0_42 m; unfold Cert.ReferenceIdeal.lit0t0_42; rw [h]
  | 43 => by show Cert.ReferenceIdeal.lit0t0_43 n = Cert.ReferenceIdeal.lit0t0_43 m; unfold Cert.ReferenceIdeal.lit0t0_43; rw [h]
  | 44 => by show Cert.ReferenceIdeal.lit0t0_44 n = Cert.ReferenceIdeal.lit0t0_44 m; unfold Cert.ReferenceIdeal.lit0t0_44; rw [h]
  | 45 => by show Cert.ReferenceIdeal.lit0t0_45 n = Cert.ReferenceIdeal.lit0t0_45 m; unfold Cert.ReferenceIdeal.lit0t0_45; rw [h]
  | 46 => by show Cert.ReferenceIdeal.lit0t0_46 n = Cert.ReferenceIdeal.lit0t0_46 m; unfold Cert.ReferenceIdeal.lit0t0_46; rw [h]
  | 47 => by show Cert.ReferenceIdeal.lit0t0_47 n = Cert.ReferenceIdeal.lit0t0_47 m; unfold Cert.ReferenceIdeal.lit0t0_47; rw [h]
  | 48 => by show Cert.ReferenceIdeal.lit0t0_48 n = Cert.ReferenceIdeal.lit0t0_48 m; unfold Cert.ReferenceIdeal.lit0t0_48; rw [h]
  | 49 => by show Cert.ReferenceIdeal.lit0t0_49 n = Cert.ReferenceIdeal.lit0t0_49 m; unfold Cert.ReferenceIdeal.lit0t0_49; rw [h]
  | 50 => by show Cert.ReferenceIdeal.lit0t0_50 n = Cert.ReferenceIdeal.lit0t0_50 m; unfold Cert.ReferenceIdeal.lit0t0_50; rw [h]
  | 51 => by show Cert.ReferenceIdeal.lit0t0_51 n = Cert.ReferenceIdeal.lit0t0_51 m; unfold Cert.ReferenceIdeal.lit0t0_51; rw [h]
  | 52 => by show Cert.ReferenceIdeal.lit0t0_52 n = Cert.ReferenceIdeal.lit0t0_52 m; unfold Cert.ReferenceIdeal.lit0t0_52; rw [h]
  | 53 => by show Cert.ReferenceIdeal.lit0t0_53 n = Cert.ReferenceIdeal.lit0t0_53 m; unfold Cert.ReferenceIdeal.lit0t0_53; rw [h]
  | 54 => by show Cert.ReferenceIdeal.lit0t0_54 n = Cert.ReferenceIdeal.lit0t0_54 m; unfold Cert.ReferenceIdeal.lit0t0_54; rw [h]
  | 55 => by show Cert.ReferenceIdeal.lit0t0_55 n = Cert.ReferenceIdeal.lit0t0_55 m; unfold Cert.ReferenceIdeal.lit0t0_55; rw [h]
  | 56 => by show Cert.ReferenceIdeal.lit0t0_56 n = Cert.ReferenceIdeal.lit0t0_56 m; unfold Cert.ReferenceIdeal.lit0t0_56; rw [h]
  | 57 => by show Cert.ReferenceIdeal.lit0t0_57 n = Cert.ReferenceIdeal.lit0t0_57 m; unfold Cert.ReferenceIdeal.lit0t0_57; rw [h]
  | 58 => by show Cert.ReferenceIdeal.lit0t0_58 n = Cert.ReferenceIdeal.lit0t0_58 m; unfold Cert.ReferenceIdeal.lit0t0_58; rw [h]
  | 59 => by show Cert.ReferenceIdeal.lit0t0_59 n = Cert.ReferenceIdeal.lit0t0_59 m; unfold Cert.ReferenceIdeal.lit0t0_59; rw [h]
  | 60 => by show Cert.ReferenceIdeal.lit0t0_60 n = Cert.ReferenceIdeal.lit0t0_60 m; unfold Cert.ReferenceIdeal.lit0t0_60; rw [h]
  | 61 => by show Cert.ReferenceIdeal.lit0t0_61 n = Cert.ReferenceIdeal.lit0t0_61 m; unfold Cert.ReferenceIdeal.lit0t0_61; rw [h]
  | 62 => by show Cert.ReferenceIdeal.lit0t0_62 n = Cert.ReferenceIdeal.lit0t0_62 m; unfold Cert.ReferenceIdeal.lit0t0_62; rw [h]
  | 63 => by show Cert.ReferenceIdeal.lit0t0_63 n = Cert.ReferenceIdeal.lit0t0_63 m; unfold Cert.ReferenceIdeal.lit0t0_63; rw [h]
  | 64 => by show Cert.ReferenceIdeal.lit0t0_64 n = Cert.ReferenceIdeal.lit0t0_64 m; unfold Cert.ReferenceIdeal.lit0t0_64; rw [h]
  | 65 => by show Cert.ReferenceIdeal.lit0t0_65 n = Cert.ReferenceIdeal.lit0t0_65 m; unfold Cert.ReferenceIdeal.lit0t0_65; rw [h]
  | 66 => by show Cert.ReferenceIdeal.lit0t0_66 n = Cert.ReferenceIdeal.lit0t0_66 m; unfold Cert.ReferenceIdeal.lit0t0_66; rw [h]
  | 67 => by show Cert.ReferenceIdeal.lit0t0_67 n = Cert.ReferenceIdeal.lit0t0_67 m; unfold Cert.ReferenceIdeal.lit0t0_67; rw [h]
  | 68 => by show Cert.ReferenceIdeal.lit0t0_68 n = Cert.ReferenceIdeal.lit0t0_68 m; unfold Cert.ReferenceIdeal.lit0t0_68; rw [h]
  | 69 => by show Cert.ReferenceIdeal.lit0t0_69 n = Cert.ReferenceIdeal.lit0t0_69 m; unfold Cert.ReferenceIdeal.lit0t0_69; rw [h]
  | 70 => by show Cert.ReferenceIdeal.lit0t0_70 n = Cert.ReferenceIdeal.lit0t0_70 m; unfold Cert.ReferenceIdeal.lit0t0_70; rw [h]
  | 71 => by show Cert.ReferenceIdeal.lit0t0_71 n = Cert.ReferenceIdeal.lit0t0_71 m; unfold Cert.ReferenceIdeal.lit0t0_71; rw [h]
  | 72 => by show Cert.ReferenceIdeal.lit0t0_72 n = Cert.ReferenceIdeal.lit0t0_72 m; unfold Cert.ReferenceIdeal.lit0t0_72; rw [h]
  | 73 => by show Cert.ReferenceIdeal.lit0t0_73 n = Cert.ReferenceIdeal.lit0t0_73 m; unfold Cert.ReferenceIdeal.lit0t0_73; rw [h]
  | 74 => by show Cert.ReferenceIdeal.lit0t0_74 n = Cert.ReferenceIdeal.lit0t0_74 m; unfold Cert.ReferenceIdeal.lit0t0_74; rw [h]
  | 75 => by show Cert.ReferenceIdeal.lit0t0_75 n = Cert.ReferenceIdeal.lit0t0_75 m; unfold Cert.ReferenceIdeal.lit0t0_75; rw [h]
  | 76 => by show Cert.ReferenceIdeal.lit0t0_76 n = Cert.ReferenceIdeal.lit0t0_76 m; unfold Cert.ReferenceIdeal.lit0t0_76; rw [h]
  | 77 => by show Cert.ReferenceIdeal.lit0t0_77 n = Cert.ReferenceIdeal.lit0t0_77 m; unfold Cert.ReferenceIdeal.lit0t0_77; rw [h]
  | 78 => by show Cert.ReferenceIdeal.lit0t0_78 n = Cert.ReferenceIdeal.lit0t0_78 m; unfold Cert.ReferenceIdeal.lit0t0_78; rw [h]
  | 79 => by show Cert.ReferenceIdeal.lit0t0_79 n = Cert.ReferenceIdeal.lit0t0_79 m; unfold Cert.ReferenceIdeal.lit0t0_79; rw [h]
  | 80 => by show Cert.ReferenceIdeal.lit0t0_80 n = Cert.ReferenceIdeal.lit0t0_80 m; unfold Cert.ReferenceIdeal.lit0t0_80; rw [h]
  | 81 => by show Cert.ReferenceIdeal.lit0t0_81 n = Cert.ReferenceIdeal.lit0t0_81 m; unfold Cert.ReferenceIdeal.lit0t0_81; rw [h]
  | 82 => by show Cert.ReferenceIdeal.lit0t0_82 n = Cert.ReferenceIdeal.lit0t0_82 m; unfold Cert.ReferenceIdeal.lit0t0_82; rw [h]
  | 83 => by show Cert.ReferenceIdeal.lit0t0_83 n = Cert.ReferenceIdeal.lit0t0_83 m; unfold Cert.ReferenceIdeal.lit0t0_83; rw [h]
  | 84 => by show Cert.ReferenceIdeal.lit0t0_84 n = Cert.ReferenceIdeal.lit0t0_84 m; unfold Cert.ReferenceIdeal.lit0t0_84; rw [h]
  | 85 => by show Cert.ReferenceIdeal.lit0t0_85 n = Cert.ReferenceIdeal.lit0t0_85 m; unfold Cert.ReferenceIdeal.lit0t0_85; rw [h]
  | 86 => by show Cert.ReferenceIdeal.lit0t0_86 n = Cert.ReferenceIdeal.lit0t0_86 m; unfold Cert.ReferenceIdeal.lit0t0_86; rw [h]
  | 87 => by show Cert.ReferenceIdeal.lit0t0_87 n = Cert.ReferenceIdeal.lit0t0_87 m; unfold Cert.ReferenceIdeal.lit0t0_87; rw [h]
  | 88 => by show Cert.ReferenceIdeal.lit0t0_88 n = Cert.ReferenceIdeal.lit0t0_88 m; unfold Cert.ReferenceIdeal.lit0t0_88; rw [h]
  | 89 => by show Cert.ReferenceIdeal.lit0t0_89 n = Cert.ReferenceIdeal.lit0t0_89 m; unfold Cert.ReferenceIdeal.lit0t0_89; rw [h]
  | 90 => by show Cert.ReferenceIdeal.lit0t0_90 n = Cert.ReferenceIdeal.lit0t0_90 m; unfold Cert.ReferenceIdeal.lit0t0_90; rw [h]
  | 91 => by show Cert.ReferenceIdeal.lit0t0_91 n = Cert.ReferenceIdeal.lit0t0_91 m; unfold Cert.ReferenceIdeal.lit0t0_91; rw [h]
  | 92 => by show Cert.ReferenceIdeal.lit0t0_92 n = Cert.ReferenceIdeal.lit0t0_92 m; unfold Cert.ReferenceIdeal.lit0t0_92; rw [h]
  | 93 => by show Cert.ReferenceIdeal.lit0t0_93 n = Cert.ReferenceIdeal.lit0t0_93 m; unfold Cert.ReferenceIdeal.lit0t0_93; rw [h]
  | 94 => by show Cert.ReferenceIdeal.lit0t0_94 n = Cert.ReferenceIdeal.lit0t0_94 m; unfold Cert.ReferenceIdeal.lit0t0_94; rw [h]
  | 95 => by show Cert.ReferenceIdeal.lit0t0_95 n = Cert.ReferenceIdeal.lit0t0_95 m; unfold Cert.ReferenceIdeal.lit0t0_95; rw [h]
  | 96 => by show Cert.ReferenceIdeal.lit0t0_96 n = Cert.ReferenceIdeal.lit0t0_96 m; unfold Cert.ReferenceIdeal.lit0t0_96; rw [h]
  | 97 => by show Cert.ReferenceIdeal.lit0t0_97 n = Cert.ReferenceIdeal.lit0t0_97 m; unfold Cert.ReferenceIdeal.lit0t0_97; rw [h]
  | 98 => by show Cert.ReferenceIdeal.lit0t0_98 n = Cert.ReferenceIdeal.lit0t0_98 m; unfold Cert.ReferenceIdeal.lit0t0_98; rw [h]
  | 99 => by show Cert.ReferenceIdeal.lit0t0_99 n = Cert.ReferenceIdeal.lit0t0_99 m; unfold Cert.ReferenceIdeal.lit0t0_99; rw [h]
  | 100 => by show Cert.ReferenceIdeal.lit0t0_100 n = Cert.ReferenceIdeal.lit0t0_100 m; unfold Cert.ReferenceIdeal.lit0t0_100; rw [h]
  | 101 => by show Cert.ReferenceIdeal.lit0t0_101 n = Cert.ReferenceIdeal.lit0t0_101 m; unfold Cert.ReferenceIdeal.lit0t0_101; rw [h]
  | 102 => by show Cert.ReferenceIdeal.lit0t0_102 n = Cert.ReferenceIdeal.lit0t0_102 m; unfold Cert.ReferenceIdeal.lit0t0_102; rw [h]
  | 103 => by show Cert.ReferenceIdeal.lit0t0_103 n = Cert.ReferenceIdeal.lit0t0_103 m; unfold Cert.ReferenceIdeal.lit0t0_103; rw [h]
  | 104 => by show Cert.ReferenceIdeal.lit0t0_104 n = Cert.ReferenceIdeal.lit0t0_104 m; unfold Cert.ReferenceIdeal.lit0t0_104; rw [h]
  | 105 => by show Cert.ReferenceIdeal.lit0t0_105 n = Cert.ReferenceIdeal.lit0t0_105 m; unfold Cert.ReferenceIdeal.lit0t0_105; rw [h]
  | 106 => by show Cert.ReferenceIdeal.lit0t0_106 n = Cert.ReferenceIdeal.lit0t0_106 m; unfold Cert.ReferenceIdeal.lit0t0_106; rw [h]
  | 107 => by show Cert.ReferenceIdeal.lit0t0_107 n = Cert.ReferenceIdeal.lit0t0_107 m; unfold Cert.ReferenceIdeal.lit0t0_107; rw [h]
  | 108 => by show Cert.ReferenceIdeal.lit0t0_108 n = Cert.ReferenceIdeal.lit0t0_108 m; unfold Cert.ReferenceIdeal.lit0t0_108; rw [h]
  | 109 => by show Cert.ReferenceIdeal.lit0t0_109 n = Cert.ReferenceIdeal.lit0t0_109 m; unfold Cert.ReferenceIdeal.lit0t0_109; rw [h]
  | 110 => by show Cert.ReferenceIdeal.lit0t0_110 n = Cert.ReferenceIdeal.lit0t0_110 m; unfold Cert.ReferenceIdeal.lit0t0_110; rw [h]
  | 111 => by show Cert.ReferenceIdeal.lit0t0_111 n = Cert.ReferenceIdeal.lit0t0_111 m; unfold Cert.ReferenceIdeal.lit0t0_111; rw [h]
  | 112 => by show Cert.ReferenceIdeal.lit0t0_112 n = Cert.ReferenceIdeal.lit0t0_112 m; unfold Cert.ReferenceIdeal.lit0t0_112; rw [h]
  | 113 => by show Cert.ReferenceIdeal.lit0t0_113 n = Cert.ReferenceIdeal.lit0t0_113 m; unfold Cert.ReferenceIdeal.lit0t0_113; rw [h]
  | 114 => by show Cert.ReferenceIdeal.lit0t0_114 n = Cert.ReferenceIdeal.lit0t0_114 m; unfold Cert.ReferenceIdeal.lit0t0_114; rw [h]
  | 115 => by show Cert.ReferenceIdeal.lit0t0_115 n = Cert.ReferenceIdeal.lit0t0_115 m; unfold Cert.ReferenceIdeal.lit0t0_115; rw [h]
  | 116 => by show Cert.ReferenceIdeal.lit0t0_116 n = Cert.ReferenceIdeal.lit0t0_116 m; unfold Cert.ReferenceIdeal.lit0t0_116; rw [h]
  | 117 => by show Cert.ReferenceIdeal.lit0t0_117 n = Cert.ReferenceIdeal.lit0t0_117 m; unfold Cert.ReferenceIdeal.lit0t0_117; rw [h]
  | 118 => by show Cert.ReferenceIdeal.lit0t0_118 n = Cert.ReferenceIdeal.lit0t0_118 m; unfold Cert.ReferenceIdeal.lit0t0_118; rw [h]
  | 119 => by show Cert.ReferenceIdeal.lit0t0_119 n = Cert.ReferenceIdeal.lit0t0_119 m; unfold Cert.ReferenceIdeal.lit0t0_119; rw [h]
  | 120 => by show Cert.ReferenceIdeal.lit0t0_120 n = Cert.ReferenceIdeal.lit0t0_120 m; unfold Cert.ReferenceIdeal.lit0t0_120; rw [h]
  | 121 => by show Cert.ReferenceIdeal.lit0t0_121 n = Cert.ReferenceIdeal.lit0t0_121 m; unfold Cert.ReferenceIdeal.lit0t0_121; rw [h]
  | 122 => by show Cert.ReferenceIdeal.lit0t0_122 n = Cert.ReferenceIdeal.lit0t0_122 m; unfold Cert.ReferenceIdeal.lit0t0_122; rw [h]
  | 123 => by show Cert.ReferenceIdeal.lit0t0_123 n = Cert.ReferenceIdeal.lit0t0_123 m; unfold Cert.ReferenceIdeal.lit0t0_123; rw [h]
  | 124 => by show Cert.ReferenceIdeal.lit0t0_124 n = Cert.ReferenceIdeal.lit0t0_124 m; unfold Cert.ReferenceIdeal.lit0t0_124; rw [h]
  | 125 => by show Cert.ReferenceIdeal.lit0t0_125 n = Cert.ReferenceIdeal.lit0t0_125 m; unfold Cert.ReferenceIdeal.lit0t0_125; rw [h]
  | 126 => by show Cert.ReferenceIdeal.lit0t0_126 n = Cert.ReferenceIdeal.lit0t0_126 m; unfold Cert.ReferenceIdeal.lit0t0_126; rw [h]
  | 127 => by show Cert.ReferenceIdeal.lit0t0_127 n = Cert.ReferenceIdeal.lit0t0_127 m; unfold Cert.ReferenceIdeal.lit0t0_127; rw [h]
  | _ + 128 => rfl

/-- The runs of rows 0 to 63 on the diagonal block are the reference's. -/
theorem run0_diag (b n : ℕ) (hb : b < 64) : run0 (2 * b) n = rowRun (b + 0) n := match b with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | 16 => rfl
  | 17 => rfl
  | 18 => rfl
  | 19 => rfl
  | 20 => rfl
  | 21 => rfl
  | 22 => rfl
  | 23 => rfl
  | 24 => rfl
  | 25 => rfl
  | 26 => rfl
  | 27 => rfl
  | 28 => rfl
  | 29 => rfl
  | 30 => rfl
  | 31 => rfl
  | 32 => rfl
  | 33 => rfl
  | 34 => rfl
  | 35 => rfl
  | 36 => rfl
  | 37 => rfl
  | 38 => rfl
  | 39 => rfl
  | 40 => rfl
  | 41 => rfl
  | 42 => rfl
  | 43 => rfl
  | 44 => rfl
  | 45 => rfl
  | 46 => rfl
  | 47 => rfl
  | 48 => rfl
  | 49 => rfl
  | 50 => rfl
  | 51 => rfl
  | 52 => rfl
  | 53 => rfl
  | 54 => rfl
  | 55 => rfl
  | 56 => rfl
  | 57 => rfl
  | 58 => rfl
  | 59 => rfl
  | 60 => rfl
  | 61 => rfl
  | 62 => rfl
  | 63 => rfl
  | k + 64 => absurd hb (by omega)

/-- The runs of rows 64 to 127 on the diagonal block are the reference's. -/
theorem run1_diag (b n : ℕ) (hb : b < 64) : run1 (2 * b) n = rowRun (b + 64) n := match b with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | 16 => rfl
  | 17 => rfl
  | 18 => rfl
  | 19 => rfl
  | 20 => rfl
  | 21 => rfl
  | 22 => rfl
  | 23 => rfl
  | 24 => rfl
  | 25 => rfl
  | 26 => rfl
  | 27 => rfl
  | 28 => rfl
  | 29 => rfl
  | 30 => rfl
  | 31 => rfl
  | 32 => rfl
  | 33 => rfl
  | 34 => rfl
  | 35 => rfl
  | 36 => rfl
  | 37 => rfl
  | 38 => rfl
  | 39 => rfl
  | 40 => rfl
  | 41 => rfl
  | 42 => rfl
  | 43 => rfl
  | 44 => rfl
  | 45 => rfl
  | 46 => rfl
  | 47 => rfl
  | 48 => rfl
  | 49 => rfl
  | 50 => rfl
  | 51 => rfl
  | 52 => rfl
  | 53 => rfl
  | 54 => rfl
  | 55 => rfl
  | 56 => rfl
  | 57 => rfl
  | 58 => rfl
  | 59 => rfl
  | 60 => rfl
  | 61 => rfl
  | 62 => rfl
  | 63 => rfl
  | k + 64 => absurd hb (by omega)

/-- The runs of rows 128 to 191 on the diagonal block are the reference's. -/
theorem run2_diag (b n : ℕ) (hb : b < 64) : run2 (2 * b + 1) n = rowRun (b + 0) n := match b with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | 16 => rfl
  | 17 => rfl
  | 18 => rfl
  | 19 => rfl
  | 20 => rfl
  | 21 => rfl
  | 22 => rfl
  | 23 => rfl
  | 24 => rfl
  | 25 => rfl
  | 26 => rfl
  | 27 => rfl
  | 28 => rfl
  | 29 => rfl
  | 30 => rfl
  | 31 => rfl
  | 32 => rfl
  | 33 => rfl
  | 34 => rfl
  | 35 => rfl
  | 36 => rfl
  | 37 => rfl
  | 38 => rfl
  | 39 => rfl
  | 40 => rfl
  | 41 => rfl
  | 42 => rfl
  | 43 => rfl
  | 44 => rfl
  | 45 => rfl
  | 46 => rfl
  | 47 => rfl
  | 48 => rfl
  | 49 => rfl
  | 50 => rfl
  | 51 => rfl
  | 52 => rfl
  | 53 => rfl
  | 54 => rfl
  | 55 => rfl
  | 56 => rfl
  | 57 => rfl
  | 58 => rfl
  | 59 => rfl
  | 60 => rfl
  | 61 => rfl
  | 62 => rfl
  | 63 => rfl
  | k + 64 => absurd hb (by omega)

/-- The runs of rows 192 to 255 on the diagonal block are the reference's. -/
theorem run3_diag (b n : ℕ) (hb : b < 64) : run3 (2 * b + 1) n = rowRun (b + 64) n := match b with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | 16 => rfl
  | 17 => rfl
  | 18 => rfl
  | 19 => rfl
  | 20 => rfl
  | 21 => rfl
  | 22 => rfl
  | 23 => rfl
  | 24 => rfl
  | 25 => rfl
  | 26 => rfl
  | 27 => rfl
  | 28 => rfl
  | 29 => rfl
  | 30 => rfl
  | 31 => rfl
  | 32 => rfl
  | 33 => rfl
  | 34 => rfl
  | 35 => rfl
  | 36 => rfl
  | 37 => rfl
  | 38 => rfl
  | 39 => rfl
  | 40 => rfl
  | 41 => rfl
  | 42 => rfl
  | 43 => rfl
  | 44 => rfl
  | 45 => rfl
  | 46 => rfl
  | 47 => rfl
  | 48 => rfl
  | 49 => rfl
  | 50 => rfl
  | 51 => rfl
  | 52 => rfl
  | 53 => rfl
  | 54 => rfl
  | 55 => rfl
  | 56 => rfl
  | 57 => rfl
  | 58 => rfl
  | 59 => rfl
  | 60 => rfl
  | 61 => rfl
  | 62 => rfl
  | 63 => rfl
  | k + 64 => absurd hb (by omega)

end HadamardQuant
-- ==== Proof.TableZeros.lean ====
/- The zero runs of the kernel's matrix table.
   Off the two diagonal blocks every word of the kernel's table is a zero of either sign. -/
module

public import proofs.«01_k».proof.Proof.TableRuns

@[expose] public section

set_option maxRecDepth 16384

namespace HadamardQuant

theorem zero_1 (n : ℕ) : ZeroWord (Cert.KernelIdeal.lit0t0_1 n) := by
  rw [show Cert.KernelIdeal.lit0t0_1 n = Cert.KernelIdeal.lit0t0_1 (n % 128) by unfold Cert.KernelIdeal.lit0t0_1; rw [Nat.mod_mod]]
  exact (by decide +kernel : ∀ j : Fin 128, ZeroWord (Cert.KernelIdeal.lit0t0_1 j)) ⟨n % 128, Nat.mod_lt _ (by decide)⟩

theorem zero_3 (n : ℕ) : ZeroWord (Cert.KernelIdeal.lit0t0_3 n) := by
  rw [show Cert.KernelIdeal.lit0t0_3 n = Cert.KernelIdeal.lit0t0_3 (n % 128) by unfold Cert.KernelIdeal.lit0t0_3; rw [Nat.mod_mod]]
  exact (by decide +kernel : ∀ j : Fin 128, ZeroWord (Cert.KernelIdeal.lit0t0_3 j)) ⟨n % 128, Nat.mod_lt _ (by decide)⟩

theorem zero_5 (n : ℕ) : ZeroWord (Cert.KernelIdeal.lit0t0_5 n) := by
  rw [show Cert.KernelIdeal.lit0t0_5 n = Cert.KernelIdeal.lit0t0_5 (n % 128) by unfold Cert.KernelIdeal.lit0t0_5; rw [Nat.mod_mod]]
  exact (by decide +kernel : ∀ j : Fin 128, ZeroWord (Cert.KernelIdeal.lit0t0_5 j)) ⟨n % 128, Nat.mod_lt _ (by decide)⟩

theorem zero_7 (n : ℕ) : ZeroWord (Cert.KernelIdeal.lit0t0_7 n) := by
  rw [show Cert.KernelIdeal.lit0t0_7 n = Cert.KernelIdeal.lit0t0_7 (n % 128) by unfold Cert.KernelIdeal.lit0t0_7; rw [Nat.mod_mod]]
  exact (by decide +kernel : ∀ j : Fin 128, ZeroWord (Cert.KernelIdeal.lit0t0_7 j)) ⟨n % 128, Nat.mod_lt _ (by decide)⟩

theorem zero_9 (n : ℕ) : ZeroWord (Cert.KernelIdeal.lit0t0_9 n) := by
  rw [show Cert.KernelIdeal.lit0t0_9 n = Cert.KernelIdeal.lit0t0_9 (n % 128) by unfold Cert.KernelIdeal.lit0t0_9; rw [Nat.mod_mod]]
  exact (by decide +kernel : ∀ j : Fin 128, ZeroWord (Cert.KernelIdeal.lit0t0_9 j)) ⟨n % 128, Nat.mod_lt _ (by decide)⟩

theorem zero_11 (n : ℕ) : ZeroWord (Cert.KernelIdeal.lit0t0_11 n) := by
  rw [show Cert.KernelIdeal.lit0t0_11 n = Cert.KernelIdeal.lit0t0_11 (n % 128) by unfold Cert.KernelIdeal.lit0t0_11; rw [Nat.mod_mod]]
  exact (by decide +kernel : ∀ j : Fin 128, ZeroWord (Cert.KernelIdeal.lit0t0_11 j)) ⟨n % 128, Nat.mod_lt _ (by decide)⟩

theorem zero_13 (n : ℕ) : ZeroWord (Cert.KernelIdeal.lit0t0_13 n) := by
  rw [show Cert.KernelIdeal.lit0t0_13 n = Cert.KernelIdeal.lit0t0_13 (n % 128) by unfold Cert.KernelIdeal.lit0t0_13; rw [Nat.mod_mod]]
  exact (by decide +kernel : ∀ j : Fin 128, ZeroWord (Cert.KernelIdeal.lit0t0_13 j)) ⟨n % 128, Nat.mod_lt _ (by decide)⟩

theorem zero_15 (n : ℕ) : ZeroWord (Cert.KernelIdeal.lit0t0_15 n) := by
  rw [show Cert.KernelIdeal.lit0t0_15 n = Cert.KernelIdeal.lit0t0_15 (n % 128) by unfold Cert.KernelIdeal.lit0t0_15; rw [Nat.mod_mod]]
  exact (by decide +kernel : ∀ j : Fin 128, ZeroWord (Cert.KernelIdeal.lit0t0_15 j)) ⟨n % 128, Nat.mod_lt _ (by decide)⟩

theorem zero_17 (n : ℕ) : ZeroWord (Cert.KernelIdeal.lit0t0_17 n) := by
  rw [show Cert.KernelIdeal.lit0t0_17 n = Cert.KernelIdeal.lit0t0_17 (n % 128) by unfold Cert.KernelIdeal.lit0t0_17; rw [Nat.mod_mod]]
  exact (by decide +kernel : ∀ j : Fin 128, ZeroWord (Cert.KernelIdeal.lit0t0_17 j)) ⟨n % 128, Nat.mod_lt _ (by decide)⟩

theorem zero_19 (n : ℕ) : ZeroWord (Cert.KernelIdeal.lit0t0_19 n) := by
  rw [show Cert.KernelIdeal.lit0t0_19 n = Cert.KernelIdeal.lit0t0_19 (n % 128) by unfold Cert.KernelIdeal.lit0t0_19; rw [Nat.mod_mod]]
  exact (by decide +kernel : ∀ j : Fin 128, ZeroWord (Cert.KernelIdeal.lit0t0_19 j)) ⟨n % 128, Nat.mod_lt _ (by decide)⟩

theorem zero_21 (n : ℕ) : ZeroWord (Cert.KernelIdeal.lit0t0_21 n) := by
  rw [show Cert.KernelIdeal.lit0t0_21 n = Cert.KernelIdeal.lit0t0_21 (n % 128) by unfold Cert.KernelIdeal.lit0t0_21; rw [Nat.mod_mod]]
  exact (by decide +kernel : ∀ j : Fin 128, ZeroWord (Cert.KernelIdeal.lit0t0_21 j)) ⟨n % 128, Nat.mod_lt _ (by decide)⟩

theorem zero_23 (n : ℕ) : ZeroWord (Cert.KernelIdeal.lit0t0_23 n) := by
  rw [show Cert.KernelIdeal.lit0t0_23 n = Cert.KernelIdeal.lit0t0_23 (n % 128) by unfold Cert.KernelIdeal.lit0t0_23; rw [Nat.mod_mod]]
  exact (by decide +kernel : ∀ j : Fin 128, ZeroWord (Cert.KernelIdeal.lit0t0_23 j)) ⟨n % 128, Nat.mod_lt _ (by decide)⟩

theorem zero_25 (n : ℕ) : ZeroWord (Cert.KernelIdeal.lit0t0_25 n) := by
  rw [show Cert.KernelIdeal.lit0t0_25 n = Cert.KernelIdeal.lit0t0_25 (n % 128) by unfold Cert.KernelIdeal.lit0t0_25; rw [Nat.mod_mod]]
  exact (by decide +kernel : ∀ j : Fin 128, ZeroWord (Cert.KernelIdeal.lit0t0_25 j)) ⟨n % 128, Nat.mod_lt _ (by decide)⟩

theorem zero_27 (n : ℕ) : ZeroWord (Cert.KernelIdeal.lit0t0_27 n) := by
  rw [show Cert.KernelIdeal.lit0t0_27 n = Cert.KernelIdeal.lit0t0_27 (n % 128) by unfold Cert.KernelIdeal.lit0t0_27; rw [Nat.mod_mod]]
  exact (by decide +kernel : ∀ j : Fin 128, ZeroWord (Cert.KernelIdeal.lit0t0_27 j)) ⟨n % 128, Nat.mod_lt _ (by decide)⟩

theorem zero_29 (n : ℕ) : ZeroWord (Cert.KernelIdeal.lit0t0_29 n) := by
  rw [show Cert.KernelIdeal.lit0t0_29 n = Cert.KernelIdeal.lit0t0_29 (n % 128) by unfold Cert.KernelIdeal.lit0t0_29; rw [Nat.mod_mod]]
  exact (by decide +kernel : ∀ j : Fin 128, ZeroWord (Cert.KernelIdeal.lit0t0_29 j)) ⟨n % 128, Nat.mod_lt _ (by decide)⟩

theorem zero_31 (n : ℕ) : ZeroWord (Cert.KernelIdeal.lit0t0_31 n) := by
  rw [show Cert.KernelIdeal.lit0t0_31 n = Cert.KernelIdeal.lit0t0_31 (n % 128) by unfold Cert.KernelIdeal.lit0t0_31; rw [Nat.mod_mod]]
  exact (by decide +kernel : ∀ j : Fin 128, ZeroWord (Cert.KernelIdeal.lit0t0_31 j)) ⟨n % 128, Nat.mod_lt _ (by decide)⟩

theorem zero_33 (n : ℕ) : ZeroWord (Cert.KernelIdeal.lit0t0_33 n) := by
  rw [show Cert.KernelIdeal.lit0t0_33 n = Cert.KernelIdeal.lit0t0_33 (n % 128) by unfold Cert.KernelIdeal.lit0t0_33; rw [Nat.mod_mod]]
  exact (by decide +kernel : ∀ j : Fin 128, ZeroWord (Cert.KernelIdeal.lit0t0_33 j)) ⟨n % 128, Nat.mod_lt _ (by decide)⟩

theorem zero_35 (n : ℕ) : ZeroWord (Cert.KernelIdeal.lit0t0_35 n) := by
  rw [show Cert.KernelIdeal.lit0t0_35 n = Cert.KernelIdeal.lit0t0_35 (n % 128) by unfold Cert.KernelIdeal.lit0t0_35; rw [Nat.mod_mod]]
  exact (by decide +kernel : ∀ j : Fin 128, ZeroWord (Cert.KernelIdeal.lit0t0_35 j)) ⟨n % 128, Nat.mod_lt _ (by decide)⟩

theorem zero_37 (n : ℕ) : ZeroWord (Cert.KernelIdeal.lit0t0_37 n) := by
  rw [show Cert.KernelIdeal.lit0t0_37 n = Cert.KernelIdeal.lit0t0_37 (n % 128) by unfold Cert.KernelIdeal.lit0t0_37; rw [Nat.mod_mod]]
  exact (by decide +kernel : ∀ j : Fin 128, ZeroWord (Cert.KernelIdeal.lit0t0_37 j)) ⟨n % 128, Nat.mod_lt _ (by decide)⟩

theorem zero_39 (n : ℕ) : ZeroWord (Cert.KernelIdeal.lit0t0_39 n) := by
  rw [show Cert.KernelIdeal.lit0t0_39 n = Cert.KernelIdeal.lit0t0_39 (n % 128) by unfold Cert.KernelIdeal.lit0t0_39; rw [Nat.mod_mod]]
  exact (by decide +kernel : ∀ j : Fin 128, ZeroWord (Cert.KernelIdeal.lit0t0_39 j)) ⟨n % 128, Nat.mod_lt _ (by decide)⟩

theorem zero_41 (n : ℕ) : ZeroWord (Cert.KernelIdeal.lit0t0_41 n) := by
  rw [show Cert.KernelIdeal.lit0t0_41 n = Cert.KernelIdeal.lit0t0_41 (n % 128) by unfold Cert.KernelIdeal.lit0t0_41; rw [Nat.mod_mod]]
  exact (by decide +kernel : ∀ j : Fin 128, ZeroWord (Cert.KernelIdeal.lit0t0_41 j)) ⟨n % 128, Nat.mod_lt _ (by decide)⟩

theorem zero_43 (n : ℕ) : ZeroWord (Cert.KernelIdeal.lit0t0_43 n) := by
  rw [show Cert.KernelIdeal.lit0t0_43 n = Cert.KernelIdeal.lit0t0_43 (n % 128) by unfold Cert.KernelIdeal.lit0t0_43; rw [Nat.mod_mod]]
  exact (by decide +kernel : ∀ j : Fin 128, ZeroWord (Cert.KernelIdeal.lit0t0_43 j)) ⟨n % 128, Nat.mod_lt _ (by decide)⟩

theorem zero_45 (n : ℕ) : ZeroWord (Cert.KernelIdeal.lit0t0_45 n) := by
  rw [show Cert.KernelIdeal.lit0t0_45 n = Cert.KernelIdeal.lit0t0_45 (n % 128) by unfold Cert.KernelIdeal.lit0t0_45; rw [Nat.mod_mod]]
  exact (by decide +kernel : ∀ j : Fin 128, ZeroWord (Cert.KernelIdeal.lit0t0_45 j)) ⟨n % 128, Nat.mod_lt _ (by decide)⟩

theorem zero_47 (n : ℕ) : ZeroWord (Cert.KernelIdeal.lit0t0_47 n) := by
  rw [show Cert.KernelIdeal.lit0t0_47 n = Cert.KernelIdeal.lit0t0_47 (n % 128) by unfold Cert.KernelIdeal.lit0t0_47; rw [Nat.mod_mod]]
  exact (by decide +kernel : ∀ j : Fin 128, ZeroWord (Cert.KernelIdeal.lit0t0_47 j)) ⟨n % 128, Nat.mod_lt _ (by decide)⟩

theorem zero_49 (n : ℕ) : ZeroWord (Cert.KernelIdeal.lit0t0_49 n) := by
  rw [show Cert.KernelIdeal.lit0t0_49 n = Cert.KernelIdeal.lit0t0_49 (n % 128) by unfold Cert.KernelIdeal.lit0t0_49; rw [Nat.mod_mod]]
  exact (by decide +kernel : ∀ j : Fin 128, ZeroWord (Cert.KernelIdeal.lit0t0_49 j)) ⟨n % 128, Nat.mod_lt _ (by decide)⟩

theorem zero_51 (n : ℕ) : ZeroWord (Cert.KernelIdeal.lit0t0_51 n) := by
  rw [show Cert.KernelIdeal.lit0t0_51 n = Cert.KernelIdeal.lit0t0_51 (n % 128) by unfold Cert.KernelIdeal.lit0t0_51; rw [Nat.mod_mod]]
  exact (by decide +kernel : ∀ j : Fin 128, ZeroWord (Cert.KernelIdeal.lit0t0_51 j)) ⟨n % 128, Nat.mod_lt _ (by decide)⟩

theorem zero_53 (n : ℕ) : ZeroWord (Cert.KernelIdeal.lit0t0_53 n) := by
  rw [show Cert.KernelIdeal.lit0t0_53 n = Cert.KernelIdeal.lit0t0_53 (n % 128) by unfold Cert.KernelIdeal.lit0t0_53; rw [Nat.mod_mod]]
  exact (by decide +kernel : ∀ j : Fin 128, ZeroWord (Cert.KernelIdeal.lit0t0_53 j)) ⟨n % 128, Nat.mod_lt _ (by decide)⟩

theorem zero_55 (n : ℕ) : ZeroWord (Cert.KernelIdeal.lit0t0_55 n) := by
  rw [show Cert.KernelIdeal.lit0t0_55 n = Cert.KernelIdeal.lit0t0_55 (n % 128) by unfold Cert.KernelIdeal.lit0t0_55; rw [Nat.mod_mod]]
  exact (by decide +kernel : ∀ j : Fin 128, ZeroWord (Cert.KernelIdeal.lit0t0_55 j)) ⟨n % 128, Nat.mod_lt _ (by decide)⟩

theorem zero_57 (n : ℕ) : ZeroWord (Cert.KernelIdeal.lit0t0_57 n) := by
  rw [show Cert.KernelIdeal.lit0t0_57 n = Cert.KernelIdeal.lit0t0_57 (n % 128) by unfold Cert.KernelIdeal.lit0t0_57; rw [Nat.mod_mod]]
  exact (by decide +kernel : ∀ j : Fin 128, ZeroWord (Cert.KernelIdeal.lit0t0_57 j)) ⟨n % 128, Nat.mod_lt _ (by decide)⟩

theorem zero_59 (n : ℕ) : ZeroWord (Cert.KernelIdeal.lit0t0_59 n) := by
  rw [show Cert.KernelIdeal.lit0t0_59 n = Cert.KernelIdeal.lit0t0_59 (n % 128) by unfold Cert.KernelIdeal.lit0t0_59; rw [Nat.mod_mod]]
  exact (by decide +kernel : ∀ j : Fin 128, ZeroWord (Cert.KernelIdeal.lit0t0_59 j)) ⟨n % 128, Nat.mod_lt _ (by decide)⟩

theorem zero_61 (n : ℕ) : ZeroWord (Cert.KernelIdeal.lit0t0_61 n) := by
  rw [show Cert.KernelIdeal.lit0t0_61 n = Cert.KernelIdeal.lit0t0_61 (n % 128) by unfold Cert.KernelIdeal.lit0t0_61; rw [Nat.mod_mod]]
  exact (by decide +kernel : ∀ j : Fin 128, ZeroWord (Cert.KernelIdeal.lit0t0_61 j)) ⟨n % 128, Nat.mod_lt _ (by decide)⟩

theorem zero_63 (n : ℕ) : ZeroWord (Cert.KernelIdeal.lit0t0_63 n) := by
  rw [show Cert.KernelIdeal.lit0t0_63 n = Cert.KernelIdeal.lit0t0_63 (n % 128) by unfold Cert.KernelIdeal.lit0t0_63; rw [Nat.mod_mod]]
  exact (by decide +kernel : ∀ j : Fin 128, ZeroWord (Cert.KernelIdeal.lit0t0_63 j)) ⟨n % 128, Nat.mod_lt _ (by decide)⟩

theorem zero_65 (n : ℕ) : ZeroWord (Cert.KernelIdeal.lit0t0_65 n) := by
  rw [show Cert.KernelIdeal.lit0t0_65 n = Cert.KernelIdeal.lit0t0_65 (n % 128) by unfold Cert.KernelIdeal.lit0t0_65; rw [Nat.mod_mod]]
  exact (by decide +kernel : ∀ j : Fin 128, ZeroWord (Cert.KernelIdeal.lit0t0_65 j)) ⟨n % 128, Nat.mod_lt _ (by decide)⟩

theorem zero_67 (n : ℕ) : ZeroWord (Cert.KernelIdeal.lit0t0_67 n) := by
  rw [show Cert.KernelIdeal.lit0t0_67 n = Cert.KernelIdeal.lit0t0_67 (n % 128) by unfold Cert.KernelIdeal.lit0t0_67; rw [Nat.mod_mod]]
  exact (by decide +kernel : ∀ j : Fin 128, ZeroWord (Cert.KernelIdeal.lit0t0_67 j)) ⟨n % 128, Nat.mod_lt _ (by decide)⟩

theorem zero_69 (n : ℕ) : ZeroWord (Cert.KernelIdeal.lit0t0_69 n) := by
  rw [show Cert.KernelIdeal.lit0t0_69 n = Cert.KernelIdeal.lit0t0_69 (n % 128) by unfold Cert.KernelIdeal.lit0t0_69; rw [Nat.mod_mod]]
  exact (by decide +kernel : ∀ j : Fin 128, ZeroWord (Cert.KernelIdeal.lit0t0_69 j)) ⟨n % 128, Nat.mod_lt _ (by decide)⟩

theorem zero_71 (n : ℕ) : ZeroWord (Cert.KernelIdeal.lit0t0_71 n) := by
  rw [show Cert.KernelIdeal.lit0t0_71 n = Cert.KernelIdeal.lit0t0_71 (n % 128) by unfold Cert.KernelIdeal.lit0t0_71; rw [Nat.mod_mod]]
  exact (by decide +kernel : ∀ j : Fin 128, ZeroWord (Cert.KernelIdeal.lit0t0_71 j)) ⟨n % 128, Nat.mod_lt _ (by decide)⟩

theorem zero_73 (n : ℕ) : ZeroWord (Cert.KernelIdeal.lit0t0_73 n) := by
  rw [show Cert.KernelIdeal.lit0t0_73 n = Cert.KernelIdeal.lit0t0_73 (n % 128) by unfold Cert.KernelIdeal.lit0t0_73; rw [Nat.mod_mod]]
  exact (by decide +kernel : ∀ j : Fin 128, ZeroWord (Cert.KernelIdeal.lit0t0_73 j)) ⟨n % 128, Nat.mod_lt _ (by decide)⟩

theorem zero_75 (n : ℕ) : ZeroWord (Cert.KernelIdeal.lit0t0_75 n) := by
  rw [show Cert.KernelIdeal.lit0t0_75 n = Cert.KernelIdeal.lit0t0_75 (n % 128) by unfold Cert.KernelIdeal.lit0t0_75; rw [Nat.mod_mod]]
  exact (by decide +kernel : ∀ j : Fin 128, ZeroWord (Cert.KernelIdeal.lit0t0_75 j)) ⟨n % 128, Nat.mod_lt _ (by decide)⟩

theorem zero_77 (n : ℕ) : ZeroWord (Cert.KernelIdeal.lit0t0_77 n) := by
  rw [show Cert.KernelIdeal.lit0t0_77 n = Cert.KernelIdeal.lit0t0_77 (n % 128) by unfold Cert.KernelIdeal.lit0t0_77; rw [Nat.mod_mod]]
  exact (by decide +kernel : ∀ j : Fin 128, ZeroWord (Cert.KernelIdeal.lit0t0_77 j)) ⟨n % 128, Nat.mod_lt _ (by decide)⟩

theorem zero_79 (n : ℕ) : ZeroWord (Cert.KernelIdeal.lit0t0_79 n) := by
  rw [show Cert.KernelIdeal.lit0t0_79 n = Cert.KernelIdeal.lit0t0_79 (n % 128) by unfold Cert.KernelIdeal.lit0t0_79; rw [Nat.mod_mod]]
  exact (by decide +kernel : ∀ j : Fin 128, ZeroWord (Cert.KernelIdeal.lit0t0_79 j)) ⟨n % 128, Nat.mod_lt _ (by decide)⟩

theorem zero_81 (n : ℕ) : ZeroWord (Cert.KernelIdeal.lit0t0_81 n) := by
  rw [show Cert.KernelIdeal.lit0t0_81 n = Cert.KernelIdeal.lit0t0_81 (n % 128) by unfold Cert.KernelIdeal.lit0t0_81; rw [Nat.mod_mod]]
  exact (by decide +kernel : ∀ j : Fin 128, ZeroWord (Cert.KernelIdeal.lit0t0_81 j)) ⟨n % 128, Nat.mod_lt _ (by decide)⟩

theorem zero_83 (n : ℕ) : ZeroWord (Cert.KernelIdeal.lit0t0_83 n) := by
  rw [show Cert.KernelIdeal.lit0t0_83 n = Cert.KernelIdeal.lit0t0_83 (n % 128) by unfold Cert.KernelIdeal.lit0t0_83; rw [Nat.mod_mod]]
  exact (by decide +kernel : ∀ j : Fin 128, ZeroWord (Cert.KernelIdeal.lit0t0_83 j)) ⟨n % 128, Nat.mod_lt _ (by decide)⟩

theorem zero_85 (n : ℕ) : ZeroWord (Cert.KernelIdeal.lit0t0_85 n) := by
  rw [show Cert.KernelIdeal.lit0t0_85 n = Cert.KernelIdeal.lit0t0_85 (n % 128) by unfold Cert.KernelIdeal.lit0t0_85; rw [Nat.mod_mod]]
  exact (by decide +kernel : ∀ j : Fin 128, ZeroWord (Cert.KernelIdeal.lit0t0_85 j)) ⟨n % 128, Nat.mod_lt _ (by decide)⟩

theorem zero_87 (n : ℕ) : ZeroWord (Cert.KernelIdeal.lit0t0_87 n) := by
  rw [show Cert.KernelIdeal.lit0t0_87 n = Cert.KernelIdeal.lit0t0_87 (n % 128) by unfold Cert.KernelIdeal.lit0t0_87; rw [Nat.mod_mod]]
  exact (by decide +kernel : ∀ j : Fin 128, ZeroWord (Cert.KernelIdeal.lit0t0_87 j)) ⟨n % 128, Nat.mod_lt _ (by decide)⟩

theorem zero_89 (n : ℕ) : ZeroWord (Cert.KernelIdeal.lit0t0_89 n) := by
  rw [show Cert.KernelIdeal.lit0t0_89 n = Cert.KernelIdeal.lit0t0_89 (n % 128) by unfold Cert.KernelIdeal.lit0t0_89; rw [Nat.mod_mod]]
  exact (by decide +kernel : ∀ j : Fin 128, ZeroWord (Cert.KernelIdeal.lit0t0_89 j)) ⟨n % 128, Nat.mod_lt _ (by decide)⟩

theorem zero_91 (n : ℕ) : ZeroWord (Cert.KernelIdeal.lit0t0_91 n) := by
  rw [show Cert.KernelIdeal.lit0t0_91 n = Cert.KernelIdeal.lit0t0_91 (n % 128) by unfold Cert.KernelIdeal.lit0t0_91; rw [Nat.mod_mod]]
  exact (by decide +kernel : ∀ j : Fin 128, ZeroWord (Cert.KernelIdeal.lit0t0_91 j)) ⟨n % 128, Nat.mod_lt _ (by decide)⟩

theorem zero_93 (n : ℕ) : ZeroWord (Cert.KernelIdeal.lit0t0_93 n) := by
  rw [show Cert.KernelIdeal.lit0t0_93 n = Cert.KernelIdeal.lit0t0_93 (n % 128) by unfold Cert.KernelIdeal.lit0t0_93; rw [Nat.mod_mod]]
  exact (by decide +kernel : ∀ j : Fin 128, ZeroWord (Cert.KernelIdeal.lit0t0_93 j)) ⟨n % 128, Nat.mod_lt _ (by decide)⟩

theorem zero_95 (n : ℕ) : ZeroWord (Cert.KernelIdeal.lit0t0_95 n) := by
  rw [show Cert.KernelIdeal.lit0t0_95 n = Cert.KernelIdeal.lit0t0_95 (n % 128) by unfold Cert.KernelIdeal.lit0t0_95; rw [Nat.mod_mod]]
  exact (by decide +kernel : ∀ j : Fin 128, ZeroWord (Cert.KernelIdeal.lit0t0_95 j)) ⟨n % 128, Nat.mod_lt _ (by decide)⟩

theorem zero_97 (n : ℕ) : ZeroWord (Cert.KernelIdeal.lit0t0_97 n) := by
  rw [show Cert.KernelIdeal.lit0t0_97 n = Cert.KernelIdeal.lit0t0_97 (n % 128) by unfold Cert.KernelIdeal.lit0t0_97; rw [Nat.mod_mod]]
  exact (by decide +kernel : ∀ j : Fin 128, ZeroWord (Cert.KernelIdeal.lit0t0_97 j)) ⟨n % 128, Nat.mod_lt _ (by decide)⟩

theorem zero_99 (n : ℕ) : ZeroWord (Cert.KernelIdeal.lit0t0_99 n) := by
  rw [show Cert.KernelIdeal.lit0t0_99 n = Cert.KernelIdeal.lit0t0_99 (n % 128) by unfold Cert.KernelIdeal.lit0t0_99; rw [Nat.mod_mod]]
  exact (by decide +kernel : ∀ j : Fin 128, ZeroWord (Cert.KernelIdeal.lit0t0_99 j)) ⟨n % 128, Nat.mod_lt _ (by decide)⟩

theorem zero_101 (n : ℕ) : ZeroWord (Cert.KernelIdeal.lit0t0_101 n) := by
  rw [show Cert.KernelIdeal.lit0t0_101 n = Cert.KernelIdeal.lit0t0_101 (n % 128) by unfold Cert.KernelIdeal.lit0t0_101; rw [Nat.mod_mod]]
  exact (by decide +kernel : ∀ j : Fin 128, ZeroWord (Cert.KernelIdeal.lit0t0_101 j)) ⟨n % 128, Nat.mod_lt _ (by decide)⟩

theorem zero_103 (n : ℕ) : ZeroWord (Cert.KernelIdeal.lit0t0_103 n) := by
  rw [show Cert.KernelIdeal.lit0t0_103 n = Cert.KernelIdeal.lit0t0_103 (n % 128) by unfold Cert.KernelIdeal.lit0t0_103; rw [Nat.mod_mod]]
  exact (by decide +kernel : ∀ j : Fin 128, ZeroWord (Cert.KernelIdeal.lit0t0_103 j)) ⟨n % 128, Nat.mod_lt _ (by decide)⟩

theorem zero_105 (n : ℕ) : ZeroWord (Cert.KernelIdeal.lit0t0_105 n) := by
  rw [show Cert.KernelIdeal.lit0t0_105 n = Cert.KernelIdeal.lit0t0_105 (n % 128) by unfold Cert.KernelIdeal.lit0t0_105; rw [Nat.mod_mod]]
  exact (by decide +kernel : ∀ j : Fin 128, ZeroWord (Cert.KernelIdeal.lit0t0_105 j)) ⟨n % 128, Nat.mod_lt _ (by decide)⟩

theorem zero_107 (n : ℕ) : ZeroWord (Cert.KernelIdeal.lit0t0_107 n) := by
  rw [show Cert.KernelIdeal.lit0t0_107 n = Cert.KernelIdeal.lit0t0_107 (n % 128) by unfold Cert.KernelIdeal.lit0t0_107; rw [Nat.mod_mod]]
  exact (by decide +kernel : ∀ j : Fin 128, ZeroWord (Cert.KernelIdeal.lit0t0_107 j)) ⟨n % 128, Nat.mod_lt _ (by decide)⟩

theorem zero_109 (n : ℕ) : ZeroWord (Cert.KernelIdeal.lit0t0_109 n) := by
  rw [show Cert.KernelIdeal.lit0t0_109 n = Cert.KernelIdeal.lit0t0_109 (n % 128) by unfold Cert.KernelIdeal.lit0t0_109; rw [Nat.mod_mod]]
  exact (by decide +kernel : ∀ j : Fin 128, ZeroWord (Cert.KernelIdeal.lit0t0_109 j)) ⟨n % 128, Nat.mod_lt _ (by decide)⟩

theorem zero_111 (n : ℕ) : ZeroWord (Cert.KernelIdeal.lit0t0_111 n) := by
  rw [show Cert.KernelIdeal.lit0t0_111 n = Cert.KernelIdeal.lit0t0_111 (n % 128) by unfold Cert.KernelIdeal.lit0t0_111; rw [Nat.mod_mod]]
  exact (by decide +kernel : ∀ j : Fin 128, ZeroWord (Cert.KernelIdeal.lit0t0_111 j)) ⟨n % 128, Nat.mod_lt _ (by decide)⟩

theorem zero_113 (n : ℕ) : ZeroWord (Cert.KernelIdeal.lit0t0_113 n) := by
  rw [show Cert.KernelIdeal.lit0t0_113 n = Cert.KernelIdeal.lit0t0_113 (n % 128) by unfold Cert.KernelIdeal.lit0t0_113; rw [Nat.mod_mod]]
  exact (by decide +kernel : ∀ j : Fin 128, ZeroWord (Cert.KernelIdeal.lit0t0_113 j)) ⟨n % 128, Nat.mod_lt _ (by decide)⟩

theorem zero_115 (n : ℕ) : ZeroWord (Cert.KernelIdeal.lit0t0_115 n) := by
  rw [show Cert.KernelIdeal.lit0t0_115 n = Cert.KernelIdeal.lit0t0_115 (n % 128) by unfold Cert.KernelIdeal.lit0t0_115; rw [Nat.mod_mod]]
  exact (by decide +kernel : ∀ j : Fin 128, ZeroWord (Cert.KernelIdeal.lit0t0_115 j)) ⟨n % 128, Nat.mod_lt _ (by decide)⟩

theorem zero_117 (n : ℕ) : ZeroWord (Cert.KernelIdeal.lit0t0_117 n) := by
  rw [show Cert.KernelIdeal.lit0t0_117 n = Cert.KernelIdeal.lit0t0_117 (n % 128) by unfold Cert.KernelIdeal.lit0t0_117; rw [Nat.mod_mod]]
  exact (by decide +kernel : ∀ j : Fin 128, ZeroWord (Cert.KernelIdeal.lit0t0_117 j)) ⟨n % 128, Nat.mod_lt _ (by decide)⟩

theorem zero_119 (n : ℕ) : ZeroWord (Cert.KernelIdeal.lit0t0_119 n) := by
  rw [show Cert.KernelIdeal.lit0t0_119 n = Cert.KernelIdeal.lit0t0_119 (n % 128) by unfold Cert.KernelIdeal.lit0t0_119; rw [Nat.mod_mod]]
  exact (by decide +kernel : ∀ j : Fin 128, ZeroWord (Cert.KernelIdeal.lit0t0_119 j)) ⟨n % 128, Nat.mod_lt _ (by decide)⟩

theorem zero_121 (n : ℕ) : ZeroWord (Cert.KernelIdeal.lit0t0_121 n) := by
  rw [show Cert.KernelIdeal.lit0t0_121 n = Cert.KernelIdeal.lit0t0_121 (n % 128) by unfold Cert.KernelIdeal.lit0t0_121; rw [Nat.mod_mod]]
  exact (by decide +kernel : ∀ j : Fin 128, ZeroWord (Cert.KernelIdeal.lit0t0_121 j)) ⟨n % 128, Nat.mod_lt _ (by decide)⟩

theorem zero_123 (n : ℕ) : ZeroWord (Cert.KernelIdeal.lit0t0_123 n) := by
  rw [show Cert.KernelIdeal.lit0t0_123 n = Cert.KernelIdeal.lit0t0_123 (n % 128) by unfold Cert.KernelIdeal.lit0t0_123; rw [Nat.mod_mod]]
  exact (by decide +kernel : ∀ j : Fin 128, ZeroWord (Cert.KernelIdeal.lit0t0_123 j)) ⟨n % 128, Nat.mod_lt _ (by decide)⟩

theorem zero_125 (n : ℕ) : ZeroWord (Cert.KernelIdeal.lit0t0_125 n) := by
  rw [show Cert.KernelIdeal.lit0t0_125 n = Cert.KernelIdeal.lit0t0_125 (n % 128) by unfold Cert.KernelIdeal.lit0t0_125; rw [Nat.mod_mod]]
  exact (by decide +kernel : ∀ j : Fin 128, ZeroWord (Cert.KernelIdeal.lit0t0_125 j)) ⟨n % 128, Nat.mod_lt _ (by decide)⟩

theorem zero_127 (n : ℕ) : ZeroWord (Cert.KernelIdeal.lit0t0_127 n) := by
  rw [show Cert.KernelIdeal.lit0t0_127 n = Cert.KernelIdeal.lit0t0_127 (n % 128) by unfold Cert.KernelIdeal.lit0t0_127; rw [Nat.mod_mod]]
  exact (by decide +kernel : ∀ j : Fin 128, ZeroWord (Cert.KernelIdeal.lit0t0_127 j)) ⟨n % 128, Nat.mod_lt _ (by decide)⟩

/-- The runs of rows 0 to 63 off the diagonal block are zero. -/
theorem run0_zero (b n : ℕ) (hb : b < 64) : ZeroWord (run0 (2 * b + 1) n) := match b with
  | 0 => zero_1 n
  | 1 => zero_3 n
  | 2 => zero_5 n
  | 3 => zero_7 n
  | 4 => zero_9 n
  | 5 => zero_11 n
  | 6 => zero_13 n
  | 7 => zero_15 n
  | 8 => zero_17 n
  | 9 => zero_19 n
  | 10 => zero_21 n
  | 11 => zero_23 n
  | 12 => zero_25 n
  | 13 => zero_27 n
  | 14 => zero_29 n
  | 15 => zero_31 n
  | 16 => zero_33 n
  | 17 => zero_35 n
  | 18 => zero_37 n
  | 19 => zero_39 n
  | 20 => zero_41 n
  | 21 => zero_43 n
  | 22 => zero_45 n
  | 23 => zero_47 n
  | 24 => zero_49 n
  | 25 => zero_51 n
  | 26 => zero_53 n
  | 27 => zero_55 n
  | 28 => zero_57 n
  | 29 => zero_59 n
  | 30 => zero_61 n
  | 31 => zero_63 n
  | 32 => zero_65 n
  | 33 => zero_67 n
  | 34 => zero_69 n
  | 35 => zero_71 n
  | 36 => zero_73 n
  | 37 => zero_75 n
  | 38 => zero_77 n
  | 39 => zero_79 n
  | 40 => zero_81 n
  | 41 => zero_83 n
  | 42 => zero_85 n
  | 43 => zero_87 n
  | 44 => zero_89 n
  | 45 => zero_91 n
  | 46 => zero_93 n
  | 47 => zero_95 n
  | 48 => zero_97 n
  | 49 => zero_99 n
  | 50 => zero_101 n
  | 51 => zero_103 n
  | 52 => zero_105 n
  | 53 => zero_107 n
  | 54 => zero_109 n
  | 55 => zero_111 n
  | 56 => zero_113 n
  | 57 => zero_115 n
  | 58 => zero_117 n
  | 59 => zero_119 n
  | 60 => zero_121 n
  | 61 => zero_123 n
  | 62 => zero_125 n
  | 63 => zero_127 n
  | k + 64 => absurd hb (by omega)

theorem zero_129 (n : ℕ) : ZeroWord (Cert.KernelIdeal.lit0t0_129 n) := by
  rw [show Cert.KernelIdeal.lit0t0_129 n = Cert.KernelIdeal.lit0t0_129 (n % 128) by unfold Cert.KernelIdeal.lit0t0_129; rw [Nat.mod_mod]]
  exact (by decide +kernel : ∀ j : Fin 128, ZeroWord (Cert.KernelIdeal.lit0t0_129 j)) ⟨n % 128, Nat.mod_lt _ (by decide)⟩

theorem zero_131 (n : ℕ) : ZeroWord (Cert.KernelIdeal.lit0t0_131 n) := by
  rw [show Cert.KernelIdeal.lit0t0_131 n = Cert.KernelIdeal.lit0t0_131 (n % 128) by unfold Cert.KernelIdeal.lit0t0_131; rw [Nat.mod_mod]]
  exact (by decide +kernel : ∀ j : Fin 128, ZeroWord (Cert.KernelIdeal.lit0t0_131 j)) ⟨n % 128, Nat.mod_lt _ (by decide)⟩

theorem zero_133 (n : ℕ) : ZeroWord (Cert.KernelIdeal.lit0t0_133 n) := by
  rw [show Cert.KernelIdeal.lit0t0_133 n = Cert.KernelIdeal.lit0t0_133 (n % 128) by unfold Cert.KernelIdeal.lit0t0_133; rw [Nat.mod_mod]]
  exact (by decide +kernel : ∀ j : Fin 128, ZeroWord (Cert.KernelIdeal.lit0t0_133 j)) ⟨n % 128, Nat.mod_lt _ (by decide)⟩

theorem zero_135 (n : ℕ) : ZeroWord (Cert.KernelIdeal.lit0t0_135 n) := by
  rw [show Cert.KernelIdeal.lit0t0_135 n = Cert.KernelIdeal.lit0t0_135 (n % 128) by unfold Cert.KernelIdeal.lit0t0_135; rw [Nat.mod_mod]]
  exact (by decide +kernel : ∀ j : Fin 128, ZeroWord (Cert.KernelIdeal.lit0t0_135 j)) ⟨n % 128, Nat.mod_lt _ (by decide)⟩

theorem zero_137 (n : ℕ) : ZeroWord (Cert.KernelIdeal.lit0t0_137 n) := by
  rw [show Cert.KernelIdeal.lit0t0_137 n = Cert.KernelIdeal.lit0t0_137 (n % 128) by unfold Cert.KernelIdeal.lit0t0_137; rw [Nat.mod_mod]]
  exact (by decide +kernel : ∀ j : Fin 128, ZeroWord (Cert.KernelIdeal.lit0t0_137 j)) ⟨n % 128, Nat.mod_lt _ (by decide)⟩

theorem zero_139 (n : ℕ) : ZeroWord (Cert.KernelIdeal.lit0t0_139 n) := by
  rw [show Cert.KernelIdeal.lit0t0_139 n = Cert.KernelIdeal.lit0t0_139 (n % 128) by unfold Cert.KernelIdeal.lit0t0_139; rw [Nat.mod_mod]]
  exact (by decide +kernel : ∀ j : Fin 128, ZeroWord (Cert.KernelIdeal.lit0t0_139 j)) ⟨n % 128, Nat.mod_lt _ (by decide)⟩

theorem zero_141 (n : ℕ) : ZeroWord (Cert.KernelIdeal.lit0t0_141 n) := by
  rw [show Cert.KernelIdeal.lit0t0_141 n = Cert.KernelIdeal.lit0t0_141 (n % 128) by unfold Cert.KernelIdeal.lit0t0_141; rw [Nat.mod_mod]]
  exact (by decide +kernel : ∀ j : Fin 128, ZeroWord (Cert.KernelIdeal.lit0t0_141 j)) ⟨n % 128, Nat.mod_lt _ (by decide)⟩

theorem zero_143 (n : ℕ) : ZeroWord (Cert.KernelIdeal.lit0t0_143 n) := by
  rw [show Cert.KernelIdeal.lit0t0_143 n = Cert.KernelIdeal.lit0t0_143 (n % 128) by unfold Cert.KernelIdeal.lit0t0_143; rw [Nat.mod_mod]]
  exact (by decide +kernel : ∀ j : Fin 128, ZeroWord (Cert.KernelIdeal.lit0t0_143 j)) ⟨n % 128, Nat.mod_lt _ (by decide)⟩

theorem zero_145 (n : ℕ) : ZeroWord (Cert.KernelIdeal.lit0t0_145 n) := by
  rw [show Cert.KernelIdeal.lit0t0_145 n = Cert.KernelIdeal.lit0t0_145 (n % 128) by unfold Cert.KernelIdeal.lit0t0_145; rw [Nat.mod_mod]]
  exact (by decide +kernel : ∀ j : Fin 128, ZeroWord (Cert.KernelIdeal.lit0t0_145 j)) ⟨n % 128, Nat.mod_lt _ (by decide)⟩

theorem zero_147 (n : ℕ) : ZeroWord (Cert.KernelIdeal.lit0t0_147 n) := by
  rw [show Cert.KernelIdeal.lit0t0_147 n = Cert.KernelIdeal.lit0t0_147 (n % 128) by unfold Cert.KernelIdeal.lit0t0_147; rw [Nat.mod_mod]]
  exact (by decide +kernel : ∀ j : Fin 128, ZeroWord (Cert.KernelIdeal.lit0t0_147 j)) ⟨n % 128, Nat.mod_lt _ (by decide)⟩

theorem zero_149 (n : ℕ) : ZeroWord (Cert.KernelIdeal.lit0t0_149 n) := by
  rw [show Cert.KernelIdeal.lit0t0_149 n = Cert.KernelIdeal.lit0t0_149 (n % 128) by unfold Cert.KernelIdeal.lit0t0_149; rw [Nat.mod_mod]]
  exact (by decide +kernel : ∀ j : Fin 128, ZeroWord (Cert.KernelIdeal.lit0t0_149 j)) ⟨n % 128, Nat.mod_lt _ (by decide)⟩

theorem zero_151 (n : ℕ) : ZeroWord (Cert.KernelIdeal.lit0t0_151 n) := by
  rw [show Cert.KernelIdeal.lit0t0_151 n = Cert.KernelIdeal.lit0t0_151 (n % 128) by unfold Cert.KernelIdeal.lit0t0_151; rw [Nat.mod_mod]]
  exact (by decide +kernel : ∀ j : Fin 128, ZeroWord (Cert.KernelIdeal.lit0t0_151 j)) ⟨n % 128, Nat.mod_lt _ (by decide)⟩

theorem zero_153 (n : ℕ) : ZeroWord (Cert.KernelIdeal.lit0t0_153 n) := by
  rw [show Cert.KernelIdeal.lit0t0_153 n = Cert.KernelIdeal.lit0t0_153 (n % 128) by unfold Cert.KernelIdeal.lit0t0_153; rw [Nat.mod_mod]]
  exact (by decide +kernel : ∀ j : Fin 128, ZeroWord (Cert.KernelIdeal.lit0t0_153 j)) ⟨n % 128, Nat.mod_lt _ (by decide)⟩

theorem zero_155 (n : ℕ) : ZeroWord (Cert.KernelIdeal.lit0t0_155 n) := by
  rw [show Cert.KernelIdeal.lit0t0_155 n = Cert.KernelIdeal.lit0t0_155 (n % 128) by unfold Cert.KernelIdeal.lit0t0_155; rw [Nat.mod_mod]]
  exact (by decide +kernel : ∀ j : Fin 128, ZeroWord (Cert.KernelIdeal.lit0t0_155 j)) ⟨n % 128, Nat.mod_lt _ (by decide)⟩

theorem zero_157 (n : ℕ) : ZeroWord (Cert.KernelIdeal.lit0t0_157 n) := by
  rw [show Cert.KernelIdeal.lit0t0_157 n = Cert.KernelIdeal.lit0t0_157 (n % 128) by unfold Cert.KernelIdeal.lit0t0_157; rw [Nat.mod_mod]]
  exact (by decide +kernel : ∀ j : Fin 128, ZeroWord (Cert.KernelIdeal.lit0t0_157 j)) ⟨n % 128, Nat.mod_lt _ (by decide)⟩

theorem zero_159 (n : ℕ) : ZeroWord (Cert.KernelIdeal.lit0t0_159 n) := by
  rw [show Cert.KernelIdeal.lit0t0_159 n = Cert.KernelIdeal.lit0t0_159 (n % 128) by unfold Cert.KernelIdeal.lit0t0_159; rw [Nat.mod_mod]]
  exact (by decide +kernel : ∀ j : Fin 128, ZeroWord (Cert.KernelIdeal.lit0t0_159 j)) ⟨n % 128, Nat.mod_lt _ (by decide)⟩

theorem zero_161 (n : ℕ) : ZeroWord (Cert.KernelIdeal.lit0t0_161 n) := by
  rw [show Cert.KernelIdeal.lit0t0_161 n = Cert.KernelIdeal.lit0t0_161 (n % 128) by unfold Cert.KernelIdeal.lit0t0_161; rw [Nat.mod_mod]]
  exact (by decide +kernel : ∀ j : Fin 128, ZeroWord (Cert.KernelIdeal.lit0t0_161 j)) ⟨n % 128, Nat.mod_lt _ (by decide)⟩

theorem zero_163 (n : ℕ) : ZeroWord (Cert.KernelIdeal.lit0t0_163 n) := by
  rw [show Cert.KernelIdeal.lit0t0_163 n = Cert.KernelIdeal.lit0t0_163 (n % 128) by unfold Cert.KernelIdeal.lit0t0_163; rw [Nat.mod_mod]]
  exact (by decide +kernel : ∀ j : Fin 128, ZeroWord (Cert.KernelIdeal.lit0t0_163 j)) ⟨n % 128, Nat.mod_lt _ (by decide)⟩

theorem zero_165 (n : ℕ) : ZeroWord (Cert.KernelIdeal.lit0t0_165 n) := by
  rw [show Cert.KernelIdeal.lit0t0_165 n = Cert.KernelIdeal.lit0t0_165 (n % 128) by unfold Cert.KernelIdeal.lit0t0_165; rw [Nat.mod_mod]]
  exact (by decide +kernel : ∀ j : Fin 128, ZeroWord (Cert.KernelIdeal.lit0t0_165 j)) ⟨n % 128, Nat.mod_lt _ (by decide)⟩

theorem zero_167 (n : ℕ) : ZeroWord (Cert.KernelIdeal.lit0t0_167 n) := by
  rw [show Cert.KernelIdeal.lit0t0_167 n = Cert.KernelIdeal.lit0t0_167 (n % 128) by unfold Cert.KernelIdeal.lit0t0_167; rw [Nat.mod_mod]]
  exact (by decide +kernel : ∀ j : Fin 128, ZeroWord (Cert.KernelIdeal.lit0t0_167 j)) ⟨n % 128, Nat.mod_lt _ (by decide)⟩

theorem zero_169 (n : ℕ) : ZeroWord (Cert.KernelIdeal.lit0t0_169 n) := by
  rw [show Cert.KernelIdeal.lit0t0_169 n = Cert.KernelIdeal.lit0t0_169 (n % 128) by unfold Cert.KernelIdeal.lit0t0_169; rw [Nat.mod_mod]]
  exact (by decide +kernel : ∀ j : Fin 128, ZeroWord (Cert.KernelIdeal.lit0t0_169 j)) ⟨n % 128, Nat.mod_lt _ (by decide)⟩

theorem zero_171 (n : ℕ) : ZeroWord (Cert.KernelIdeal.lit0t0_171 n) := by
  rw [show Cert.KernelIdeal.lit0t0_171 n = Cert.KernelIdeal.lit0t0_171 (n % 128) by unfold Cert.KernelIdeal.lit0t0_171; rw [Nat.mod_mod]]
  exact (by decide +kernel : ∀ j : Fin 128, ZeroWord (Cert.KernelIdeal.lit0t0_171 j)) ⟨n % 128, Nat.mod_lt _ (by decide)⟩

theorem zero_173 (n : ℕ) : ZeroWord (Cert.KernelIdeal.lit0t0_173 n) := by
  rw [show Cert.KernelIdeal.lit0t0_173 n = Cert.KernelIdeal.lit0t0_173 (n % 128) by unfold Cert.KernelIdeal.lit0t0_173; rw [Nat.mod_mod]]
  exact (by decide +kernel : ∀ j : Fin 128, ZeroWord (Cert.KernelIdeal.lit0t0_173 j)) ⟨n % 128, Nat.mod_lt _ (by decide)⟩

theorem zero_175 (n : ℕ) : ZeroWord (Cert.KernelIdeal.lit0t0_175 n) := by
  rw [show Cert.KernelIdeal.lit0t0_175 n = Cert.KernelIdeal.lit0t0_175 (n % 128) by unfold Cert.KernelIdeal.lit0t0_175; rw [Nat.mod_mod]]
  exact (by decide +kernel : ∀ j : Fin 128, ZeroWord (Cert.KernelIdeal.lit0t0_175 j)) ⟨n % 128, Nat.mod_lt _ (by decide)⟩

theorem zero_177 (n : ℕ) : ZeroWord (Cert.KernelIdeal.lit0t0_177 n) := by
  rw [show Cert.KernelIdeal.lit0t0_177 n = Cert.KernelIdeal.lit0t0_177 (n % 128) by unfold Cert.KernelIdeal.lit0t0_177; rw [Nat.mod_mod]]
  exact (by decide +kernel : ∀ j : Fin 128, ZeroWord (Cert.KernelIdeal.lit0t0_177 j)) ⟨n % 128, Nat.mod_lt _ (by decide)⟩

theorem zero_179 (n : ℕ) : ZeroWord (Cert.KernelIdeal.lit0t0_179 n) := by
  rw [show Cert.KernelIdeal.lit0t0_179 n = Cert.KernelIdeal.lit0t0_179 (n % 128) by unfold Cert.KernelIdeal.lit0t0_179; rw [Nat.mod_mod]]
  exact (by decide +kernel : ∀ j : Fin 128, ZeroWord (Cert.KernelIdeal.lit0t0_179 j)) ⟨n % 128, Nat.mod_lt _ (by decide)⟩

theorem zero_181 (n : ℕ) : ZeroWord (Cert.KernelIdeal.lit0t0_181 n) := by
  rw [show Cert.KernelIdeal.lit0t0_181 n = Cert.KernelIdeal.lit0t0_181 (n % 128) by unfold Cert.KernelIdeal.lit0t0_181; rw [Nat.mod_mod]]
  exact (by decide +kernel : ∀ j : Fin 128, ZeroWord (Cert.KernelIdeal.lit0t0_181 j)) ⟨n % 128, Nat.mod_lt _ (by decide)⟩

theorem zero_183 (n : ℕ) : ZeroWord (Cert.KernelIdeal.lit0t0_183 n) := by
  rw [show Cert.KernelIdeal.lit0t0_183 n = Cert.KernelIdeal.lit0t0_183 (n % 128) by unfold Cert.KernelIdeal.lit0t0_183; rw [Nat.mod_mod]]
  exact (by decide +kernel : ∀ j : Fin 128, ZeroWord (Cert.KernelIdeal.lit0t0_183 j)) ⟨n % 128, Nat.mod_lt _ (by decide)⟩

theorem zero_185 (n : ℕ) : ZeroWord (Cert.KernelIdeal.lit0t0_185 n) := by
  rw [show Cert.KernelIdeal.lit0t0_185 n = Cert.KernelIdeal.lit0t0_185 (n % 128) by unfold Cert.KernelIdeal.lit0t0_185; rw [Nat.mod_mod]]
  exact (by decide +kernel : ∀ j : Fin 128, ZeroWord (Cert.KernelIdeal.lit0t0_185 j)) ⟨n % 128, Nat.mod_lt _ (by decide)⟩

theorem zero_187 (n : ℕ) : ZeroWord (Cert.KernelIdeal.lit0t0_187 n) := by
  rw [show Cert.KernelIdeal.lit0t0_187 n = Cert.KernelIdeal.lit0t0_187 (n % 128) by unfold Cert.KernelIdeal.lit0t0_187; rw [Nat.mod_mod]]
  exact (by decide +kernel : ∀ j : Fin 128, ZeroWord (Cert.KernelIdeal.lit0t0_187 j)) ⟨n % 128, Nat.mod_lt _ (by decide)⟩

theorem zero_189 (n : ℕ) : ZeroWord (Cert.KernelIdeal.lit0t0_189 n) := by
  rw [show Cert.KernelIdeal.lit0t0_189 n = Cert.KernelIdeal.lit0t0_189 (n % 128) by unfold Cert.KernelIdeal.lit0t0_189; rw [Nat.mod_mod]]
  exact (by decide +kernel : ∀ j : Fin 128, ZeroWord (Cert.KernelIdeal.lit0t0_189 j)) ⟨n % 128, Nat.mod_lt _ (by decide)⟩

theorem zero_191 (n : ℕ) : ZeroWord (Cert.KernelIdeal.lit0t0_191 n) := by
  rw [show Cert.KernelIdeal.lit0t0_191 n = Cert.KernelIdeal.lit0t0_191 (n % 128) by unfold Cert.KernelIdeal.lit0t0_191; rw [Nat.mod_mod]]
  exact (by decide +kernel : ∀ j : Fin 128, ZeroWord (Cert.KernelIdeal.lit0t0_191 j)) ⟨n % 128, Nat.mod_lt _ (by decide)⟩

theorem zero_193 (n : ℕ) : ZeroWord (Cert.KernelIdeal.lit0t0_193 n) := by
  rw [show Cert.KernelIdeal.lit0t0_193 n = Cert.KernelIdeal.lit0t0_193 (n % 128) by unfold Cert.KernelIdeal.lit0t0_193; rw [Nat.mod_mod]]
  exact (by decide +kernel : ∀ j : Fin 128, ZeroWord (Cert.KernelIdeal.lit0t0_193 j)) ⟨n % 128, Nat.mod_lt _ (by decide)⟩

theorem zero_195 (n : ℕ) : ZeroWord (Cert.KernelIdeal.lit0t0_195 n) := by
  rw [show Cert.KernelIdeal.lit0t0_195 n = Cert.KernelIdeal.lit0t0_195 (n % 128) by unfold Cert.KernelIdeal.lit0t0_195; rw [Nat.mod_mod]]
  exact (by decide +kernel : ∀ j : Fin 128, ZeroWord (Cert.KernelIdeal.lit0t0_195 j)) ⟨n % 128, Nat.mod_lt _ (by decide)⟩

theorem zero_197 (n : ℕ) : ZeroWord (Cert.KernelIdeal.lit0t0_197 n) := by
  rw [show Cert.KernelIdeal.lit0t0_197 n = Cert.KernelIdeal.lit0t0_197 (n % 128) by unfold Cert.KernelIdeal.lit0t0_197; rw [Nat.mod_mod]]
  exact (by decide +kernel : ∀ j : Fin 128, ZeroWord (Cert.KernelIdeal.lit0t0_197 j)) ⟨n % 128, Nat.mod_lt _ (by decide)⟩

theorem zero_199 (n : ℕ) : ZeroWord (Cert.KernelIdeal.lit0t0_199 n) := by
  rw [show Cert.KernelIdeal.lit0t0_199 n = Cert.KernelIdeal.lit0t0_199 (n % 128) by unfold Cert.KernelIdeal.lit0t0_199; rw [Nat.mod_mod]]
  exact (by decide +kernel : ∀ j : Fin 128, ZeroWord (Cert.KernelIdeal.lit0t0_199 j)) ⟨n % 128, Nat.mod_lt _ (by decide)⟩

theorem zero_201 (n : ℕ) : ZeroWord (Cert.KernelIdeal.lit0t0_201 n) := by
  rw [show Cert.KernelIdeal.lit0t0_201 n = Cert.KernelIdeal.lit0t0_201 (n % 128) by unfold Cert.KernelIdeal.lit0t0_201; rw [Nat.mod_mod]]
  exact (by decide +kernel : ∀ j : Fin 128, ZeroWord (Cert.KernelIdeal.lit0t0_201 j)) ⟨n % 128, Nat.mod_lt _ (by decide)⟩

theorem zero_203 (n : ℕ) : ZeroWord (Cert.KernelIdeal.lit0t0_203 n) := by
  rw [show Cert.KernelIdeal.lit0t0_203 n = Cert.KernelIdeal.lit0t0_203 (n % 128) by unfold Cert.KernelIdeal.lit0t0_203; rw [Nat.mod_mod]]
  exact (by decide +kernel : ∀ j : Fin 128, ZeroWord (Cert.KernelIdeal.lit0t0_203 j)) ⟨n % 128, Nat.mod_lt _ (by decide)⟩

theorem zero_205 (n : ℕ) : ZeroWord (Cert.KernelIdeal.lit0t0_205 n) := by
  rw [show Cert.KernelIdeal.lit0t0_205 n = Cert.KernelIdeal.lit0t0_205 (n % 128) by unfold Cert.KernelIdeal.lit0t0_205; rw [Nat.mod_mod]]
  exact (by decide +kernel : ∀ j : Fin 128, ZeroWord (Cert.KernelIdeal.lit0t0_205 j)) ⟨n % 128, Nat.mod_lt _ (by decide)⟩

theorem zero_207 (n : ℕ) : ZeroWord (Cert.KernelIdeal.lit0t0_207 n) := by
  rw [show Cert.KernelIdeal.lit0t0_207 n = Cert.KernelIdeal.lit0t0_207 (n % 128) by unfold Cert.KernelIdeal.lit0t0_207; rw [Nat.mod_mod]]
  exact (by decide +kernel : ∀ j : Fin 128, ZeroWord (Cert.KernelIdeal.lit0t0_207 j)) ⟨n % 128, Nat.mod_lt _ (by decide)⟩

theorem zero_209 (n : ℕ) : ZeroWord (Cert.KernelIdeal.lit0t0_209 n) := by
  rw [show Cert.KernelIdeal.lit0t0_209 n = Cert.KernelIdeal.lit0t0_209 (n % 128) by unfold Cert.KernelIdeal.lit0t0_209; rw [Nat.mod_mod]]
  exact (by decide +kernel : ∀ j : Fin 128, ZeroWord (Cert.KernelIdeal.lit0t0_209 j)) ⟨n % 128, Nat.mod_lt _ (by decide)⟩

theorem zero_211 (n : ℕ) : ZeroWord (Cert.KernelIdeal.lit0t0_211 n) := by
  rw [show Cert.KernelIdeal.lit0t0_211 n = Cert.KernelIdeal.lit0t0_211 (n % 128) by unfold Cert.KernelIdeal.lit0t0_211; rw [Nat.mod_mod]]
  exact (by decide +kernel : ∀ j : Fin 128, ZeroWord (Cert.KernelIdeal.lit0t0_211 j)) ⟨n % 128, Nat.mod_lt _ (by decide)⟩

theorem zero_213 (n : ℕ) : ZeroWord (Cert.KernelIdeal.lit0t0_213 n) := by
  rw [show Cert.KernelIdeal.lit0t0_213 n = Cert.KernelIdeal.lit0t0_213 (n % 128) by unfold Cert.KernelIdeal.lit0t0_213; rw [Nat.mod_mod]]
  exact (by decide +kernel : ∀ j : Fin 128, ZeroWord (Cert.KernelIdeal.lit0t0_213 j)) ⟨n % 128, Nat.mod_lt _ (by decide)⟩

theorem zero_215 (n : ℕ) : ZeroWord (Cert.KernelIdeal.lit0t0_215 n) := by
  rw [show Cert.KernelIdeal.lit0t0_215 n = Cert.KernelIdeal.lit0t0_215 (n % 128) by unfold Cert.KernelIdeal.lit0t0_215; rw [Nat.mod_mod]]
  exact (by decide +kernel : ∀ j : Fin 128, ZeroWord (Cert.KernelIdeal.lit0t0_215 j)) ⟨n % 128, Nat.mod_lt _ (by decide)⟩

theorem zero_217 (n : ℕ) : ZeroWord (Cert.KernelIdeal.lit0t0_217 n) := by
  rw [show Cert.KernelIdeal.lit0t0_217 n = Cert.KernelIdeal.lit0t0_217 (n % 128) by unfold Cert.KernelIdeal.lit0t0_217; rw [Nat.mod_mod]]
  exact (by decide +kernel : ∀ j : Fin 128, ZeroWord (Cert.KernelIdeal.lit0t0_217 j)) ⟨n % 128, Nat.mod_lt _ (by decide)⟩

theorem zero_219 (n : ℕ) : ZeroWord (Cert.KernelIdeal.lit0t0_219 n) := by
  rw [show Cert.KernelIdeal.lit0t0_219 n = Cert.KernelIdeal.lit0t0_219 (n % 128) by unfold Cert.KernelIdeal.lit0t0_219; rw [Nat.mod_mod]]
  exact (by decide +kernel : ∀ j : Fin 128, ZeroWord (Cert.KernelIdeal.lit0t0_219 j)) ⟨n % 128, Nat.mod_lt _ (by decide)⟩

theorem zero_221 (n : ℕ) : ZeroWord (Cert.KernelIdeal.lit0t0_221 n) := by
  rw [show Cert.KernelIdeal.lit0t0_221 n = Cert.KernelIdeal.lit0t0_221 (n % 128) by unfold Cert.KernelIdeal.lit0t0_221; rw [Nat.mod_mod]]
  exact (by decide +kernel : ∀ j : Fin 128, ZeroWord (Cert.KernelIdeal.lit0t0_221 j)) ⟨n % 128, Nat.mod_lt _ (by decide)⟩

theorem zero_223 (n : ℕ) : ZeroWord (Cert.KernelIdeal.lit0t0_223 n) := by
  rw [show Cert.KernelIdeal.lit0t0_223 n = Cert.KernelIdeal.lit0t0_223 (n % 128) by unfold Cert.KernelIdeal.lit0t0_223; rw [Nat.mod_mod]]
  exact (by decide +kernel : ∀ j : Fin 128, ZeroWord (Cert.KernelIdeal.lit0t0_223 j)) ⟨n % 128, Nat.mod_lt _ (by decide)⟩

theorem zero_225 (n : ℕ) : ZeroWord (Cert.KernelIdeal.lit0t0_225 n) := by
  rw [show Cert.KernelIdeal.lit0t0_225 n = Cert.KernelIdeal.lit0t0_225 (n % 128) by unfold Cert.KernelIdeal.lit0t0_225; rw [Nat.mod_mod]]
  exact (by decide +kernel : ∀ j : Fin 128, ZeroWord (Cert.KernelIdeal.lit0t0_225 j)) ⟨n % 128, Nat.mod_lt _ (by decide)⟩

theorem zero_227 (n : ℕ) : ZeroWord (Cert.KernelIdeal.lit0t0_227 n) := by
  rw [show Cert.KernelIdeal.lit0t0_227 n = Cert.KernelIdeal.lit0t0_227 (n % 128) by unfold Cert.KernelIdeal.lit0t0_227; rw [Nat.mod_mod]]
  exact (by decide +kernel : ∀ j : Fin 128, ZeroWord (Cert.KernelIdeal.lit0t0_227 j)) ⟨n % 128, Nat.mod_lt _ (by decide)⟩

theorem zero_229 (n : ℕ) : ZeroWord (Cert.KernelIdeal.lit0t0_229 n) := by
  rw [show Cert.KernelIdeal.lit0t0_229 n = Cert.KernelIdeal.lit0t0_229 (n % 128) by unfold Cert.KernelIdeal.lit0t0_229; rw [Nat.mod_mod]]
  exact (by decide +kernel : ∀ j : Fin 128, ZeroWord (Cert.KernelIdeal.lit0t0_229 j)) ⟨n % 128, Nat.mod_lt _ (by decide)⟩

theorem zero_231 (n : ℕ) : ZeroWord (Cert.KernelIdeal.lit0t0_231 n) := by
  rw [show Cert.KernelIdeal.lit0t0_231 n = Cert.KernelIdeal.lit0t0_231 (n % 128) by unfold Cert.KernelIdeal.lit0t0_231; rw [Nat.mod_mod]]
  exact (by decide +kernel : ∀ j : Fin 128, ZeroWord (Cert.KernelIdeal.lit0t0_231 j)) ⟨n % 128, Nat.mod_lt _ (by decide)⟩

theorem zero_233 (n : ℕ) : ZeroWord (Cert.KernelIdeal.lit0t0_233 n) := by
  rw [show Cert.KernelIdeal.lit0t0_233 n = Cert.KernelIdeal.lit0t0_233 (n % 128) by unfold Cert.KernelIdeal.lit0t0_233; rw [Nat.mod_mod]]
  exact (by decide +kernel : ∀ j : Fin 128, ZeroWord (Cert.KernelIdeal.lit0t0_233 j)) ⟨n % 128, Nat.mod_lt _ (by decide)⟩

theorem zero_235 (n : ℕ) : ZeroWord (Cert.KernelIdeal.lit0t0_235 n) := by
  rw [show Cert.KernelIdeal.lit0t0_235 n = Cert.KernelIdeal.lit0t0_235 (n % 128) by unfold Cert.KernelIdeal.lit0t0_235; rw [Nat.mod_mod]]
  exact (by decide +kernel : ∀ j : Fin 128, ZeroWord (Cert.KernelIdeal.lit0t0_235 j)) ⟨n % 128, Nat.mod_lt _ (by decide)⟩

theorem zero_237 (n : ℕ) : ZeroWord (Cert.KernelIdeal.lit0t0_237 n) := by
  rw [show Cert.KernelIdeal.lit0t0_237 n = Cert.KernelIdeal.lit0t0_237 (n % 128) by unfold Cert.KernelIdeal.lit0t0_237; rw [Nat.mod_mod]]
  exact (by decide +kernel : ∀ j : Fin 128, ZeroWord (Cert.KernelIdeal.lit0t0_237 j)) ⟨n % 128, Nat.mod_lt _ (by decide)⟩

theorem zero_239 (n : ℕ) : ZeroWord (Cert.KernelIdeal.lit0t0_239 n) := by
  rw [show Cert.KernelIdeal.lit0t0_239 n = Cert.KernelIdeal.lit0t0_239 (n % 128) by unfold Cert.KernelIdeal.lit0t0_239; rw [Nat.mod_mod]]
  exact (by decide +kernel : ∀ j : Fin 128, ZeroWord (Cert.KernelIdeal.lit0t0_239 j)) ⟨n % 128, Nat.mod_lt _ (by decide)⟩

theorem zero_241 (n : ℕ) : ZeroWord (Cert.KernelIdeal.lit0t0_241 n) := by
  rw [show Cert.KernelIdeal.lit0t0_241 n = Cert.KernelIdeal.lit0t0_241 (n % 128) by unfold Cert.KernelIdeal.lit0t0_241; rw [Nat.mod_mod]]
  exact (by decide +kernel : ∀ j : Fin 128, ZeroWord (Cert.KernelIdeal.lit0t0_241 j)) ⟨n % 128, Nat.mod_lt _ (by decide)⟩

theorem zero_243 (n : ℕ) : ZeroWord (Cert.KernelIdeal.lit0t0_243 n) := by
  rw [show Cert.KernelIdeal.lit0t0_243 n = Cert.KernelIdeal.lit0t0_243 (n % 128) by unfold Cert.KernelIdeal.lit0t0_243; rw [Nat.mod_mod]]
  exact (by decide +kernel : ∀ j : Fin 128, ZeroWord (Cert.KernelIdeal.lit0t0_243 j)) ⟨n % 128, Nat.mod_lt _ (by decide)⟩

theorem zero_245 (n : ℕ) : ZeroWord (Cert.KernelIdeal.lit0t0_245 n) := by
  rw [show Cert.KernelIdeal.lit0t0_245 n = Cert.KernelIdeal.lit0t0_245 (n % 128) by unfold Cert.KernelIdeal.lit0t0_245; rw [Nat.mod_mod]]
  exact (by decide +kernel : ∀ j : Fin 128, ZeroWord (Cert.KernelIdeal.lit0t0_245 j)) ⟨n % 128, Nat.mod_lt _ (by decide)⟩

theorem zero_247 (n : ℕ) : ZeroWord (Cert.KernelIdeal.lit0t0_247 n) := by
  rw [show Cert.KernelIdeal.lit0t0_247 n = Cert.KernelIdeal.lit0t0_247 (n % 128) by unfold Cert.KernelIdeal.lit0t0_247; rw [Nat.mod_mod]]
  exact (by decide +kernel : ∀ j : Fin 128, ZeroWord (Cert.KernelIdeal.lit0t0_247 j)) ⟨n % 128, Nat.mod_lt _ (by decide)⟩

theorem zero_249 (n : ℕ) : ZeroWord (Cert.KernelIdeal.lit0t0_249 n) := by
  rw [show Cert.KernelIdeal.lit0t0_249 n = Cert.KernelIdeal.lit0t0_249 (n % 128) by unfold Cert.KernelIdeal.lit0t0_249; rw [Nat.mod_mod]]
  exact (by decide +kernel : ∀ j : Fin 128, ZeroWord (Cert.KernelIdeal.lit0t0_249 j)) ⟨n % 128, Nat.mod_lt _ (by decide)⟩

theorem zero_251 (n : ℕ) : ZeroWord (Cert.KernelIdeal.lit0t0_251 n) := by
  rw [show Cert.KernelIdeal.lit0t0_251 n = Cert.KernelIdeal.lit0t0_251 (n % 128) by unfold Cert.KernelIdeal.lit0t0_251; rw [Nat.mod_mod]]
  exact (by decide +kernel : ∀ j : Fin 128, ZeroWord (Cert.KernelIdeal.lit0t0_251 j)) ⟨n % 128, Nat.mod_lt _ (by decide)⟩

theorem zero_253 (n : ℕ) : ZeroWord (Cert.KernelIdeal.lit0t0_253 n) := by
  rw [show Cert.KernelIdeal.lit0t0_253 n = Cert.KernelIdeal.lit0t0_253 (n % 128) by unfold Cert.KernelIdeal.lit0t0_253; rw [Nat.mod_mod]]
  exact (by decide +kernel : ∀ j : Fin 128, ZeroWord (Cert.KernelIdeal.lit0t0_253 j)) ⟨n % 128, Nat.mod_lt _ (by decide)⟩

theorem zero_255 (n : ℕ) : ZeroWord (Cert.KernelIdeal.lit0t0_255 n) := by
  rw [show Cert.KernelIdeal.lit0t0_255 n = Cert.KernelIdeal.lit0t0_255 (n % 128) by unfold Cert.KernelIdeal.lit0t0_255; rw [Nat.mod_mod]]
  exact (by decide +kernel : ∀ j : Fin 128, ZeroWord (Cert.KernelIdeal.lit0t0_255 j)) ⟨n % 128, Nat.mod_lt _ (by decide)⟩

/-- The runs of rows 64 to 127 off the diagonal block are zero. -/
theorem run1_zero (b n : ℕ) (hb : b < 64) : ZeroWord (run1 (2 * b + 1) n) := match b with
  | 0 => zero_129 n
  | 1 => zero_131 n
  | 2 => zero_133 n
  | 3 => zero_135 n
  | 4 => zero_137 n
  | 5 => zero_139 n
  | 6 => zero_141 n
  | 7 => zero_143 n
  | 8 => zero_145 n
  | 9 => zero_147 n
  | 10 => zero_149 n
  | 11 => zero_151 n
  | 12 => zero_153 n
  | 13 => zero_155 n
  | 14 => zero_157 n
  | 15 => zero_159 n
  | 16 => zero_161 n
  | 17 => zero_163 n
  | 18 => zero_165 n
  | 19 => zero_167 n
  | 20 => zero_169 n
  | 21 => zero_171 n
  | 22 => zero_173 n
  | 23 => zero_175 n
  | 24 => zero_177 n
  | 25 => zero_179 n
  | 26 => zero_181 n
  | 27 => zero_183 n
  | 28 => zero_185 n
  | 29 => zero_187 n
  | 30 => zero_189 n
  | 31 => zero_191 n
  | 32 => zero_193 n
  | 33 => zero_195 n
  | 34 => zero_197 n
  | 35 => zero_199 n
  | 36 => zero_201 n
  | 37 => zero_203 n
  | 38 => zero_205 n
  | 39 => zero_207 n
  | 40 => zero_209 n
  | 41 => zero_211 n
  | 42 => zero_213 n
  | 43 => zero_215 n
  | 44 => zero_217 n
  | 45 => zero_219 n
  | 46 => zero_221 n
  | 47 => zero_223 n
  | 48 => zero_225 n
  | 49 => zero_227 n
  | 50 => zero_229 n
  | 51 => zero_231 n
  | 52 => zero_233 n
  | 53 => zero_235 n
  | 54 => zero_237 n
  | 55 => zero_239 n
  | 56 => zero_241 n
  | 57 => zero_243 n
  | 58 => zero_245 n
  | 59 => zero_247 n
  | 60 => zero_249 n
  | 61 => zero_251 n
  | 62 => zero_253 n
  | 63 => zero_255 n
  | k + 64 => absurd hb (by omega)

theorem zero_256 (n : ℕ) : ZeroWord (Cert.KernelIdeal.lit0t0_256 n) := by
  rw [show Cert.KernelIdeal.lit0t0_256 n = Cert.KernelIdeal.lit0t0_256 (n % 128) by unfold Cert.KernelIdeal.lit0t0_256; rw [Nat.mod_mod]]
  exact (by decide +kernel : ∀ j : Fin 128, ZeroWord (Cert.KernelIdeal.lit0t0_256 j)) ⟨n % 128, Nat.mod_lt _ (by decide)⟩

theorem zero_258 (n : ℕ) : ZeroWord (Cert.KernelIdeal.lit0t0_258 n) := by
  rw [show Cert.KernelIdeal.lit0t0_258 n = Cert.KernelIdeal.lit0t0_258 (n % 128) by unfold Cert.KernelIdeal.lit0t0_258; rw [Nat.mod_mod]]
  exact (by decide +kernel : ∀ j : Fin 128, ZeroWord (Cert.KernelIdeal.lit0t0_258 j)) ⟨n % 128, Nat.mod_lt _ (by decide)⟩

theorem zero_260 (n : ℕ) : ZeroWord (Cert.KernelIdeal.lit0t0_260 n) := by
  rw [show Cert.KernelIdeal.lit0t0_260 n = Cert.KernelIdeal.lit0t0_260 (n % 128) by unfold Cert.KernelIdeal.lit0t0_260; rw [Nat.mod_mod]]
  exact (by decide +kernel : ∀ j : Fin 128, ZeroWord (Cert.KernelIdeal.lit0t0_260 j)) ⟨n % 128, Nat.mod_lt _ (by decide)⟩

theorem zero_262 (n : ℕ) : ZeroWord (Cert.KernelIdeal.lit0t0_262 n) := by
  rw [show Cert.KernelIdeal.lit0t0_262 n = Cert.KernelIdeal.lit0t0_262 (n % 128) by unfold Cert.KernelIdeal.lit0t0_262; rw [Nat.mod_mod]]
  exact (by decide +kernel : ∀ j : Fin 128, ZeroWord (Cert.KernelIdeal.lit0t0_262 j)) ⟨n % 128, Nat.mod_lt _ (by decide)⟩

theorem zero_264 (n : ℕ) : ZeroWord (Cert.KernelIdeal.lit0t0_264 n) := by
  rw [show Cert.KernelIdeal.lit0t0_264 n = Cert.KernelIdeal.lit0t0_264 (n % 128) by unfold Cert.KernelIdeal.lit0t0_264; rw [Nat.mod_mod]]
  exact (by decide +kernel : ∀ j : Fin 128, ZeroWord (Cert.KernelIdeal.lit0t0_264 j)) ⟨n % 128, Nat.mod_lt _ (by decide)⟩

theorem zero_266 (n : ℕ) : ZeroWord (Cert.KernelIdeal.lit0t0_266 n) := by
  rw [show Cert.KernelIdeal.lit0t0_266 n = Cert.KernelIdeal.lit0t0_266 (n % 128) by unfold Cert.KernelIdeal.lit0t0_266; rw [Nat.mod_mod]]
  exact (by decide +kernel : ∀ j : Fin 128, ZeroWord (Cert.KernelIdeal.lit0t0_266 j)) ⟨n % 128, Nat.mod_lt _ (by decide)⟩

theorem zero_268 (n : ℕ) : ZeroWord (Cert.KernelIdeal.lit0t0_268 n) := by
  rw [show Cert.KernelIdeal.lit0t0_268 n = Cert.KernelIdeal.lit0t0_268 (n % 128) by unfold Cert.KernelIdeal.lit0t0_268; rw [Nat.mod_mod]]
  exact (by decide +kernel : ∀ j : Fin 128, ZeroWord (Cert.KernelIdeal.lit0t0_268 j)) ⟨n % 128, Nat.mod_lt _ (by decide)⟩

theorem zero_270 (n : ℕ) : ZeroWord (Cert.KernelIdeal.lit0t0_270 n) := by
  rw [show Cert.KernelIdeal.lit0t0_270 n = Cert.KernelIdeal.lit0t0_270 (n % 128) by unfold Cert.KernelIdeal.lit0t0_270; rw [Nat.mod_mod]]
  exact (by decide +kernel : ∀ j : Fin 128, ZeroWord (Cert.KernelIdeal.lit0t0_270 j)) ⟨n % 128, Nat.mod_lt _ (by decide)⟩

theorem zero_272 (n : ℕ) : ZeroWord (Cert.KernelIdeal.lit0t0_272 n) := by
  rw [show Cert.KernelIdeal.lit0t0_272 n = Cert.KernelIdeal.lit0t0_272 (n % 128) by unfold Cert.KernelIdeal.lit0t0_272; rw [Nat.mod_mod]]
  exact (by decide +kernel : ∀ j : Fin 128, ZeroWord (Cert.KernelIdeal.lit0t0_272 j)) ⟨n % 128, Nat.mod_lt _ (by decide)⟩

theorem zero_274 (n : ℕ) : ZeroWord (Cert.KernelIdeal.lit0t0_274 n) := by
  rw [show Cert.KernelIdeal.lit0t0_274 n = Cert.KernelIdeal.lit0t0_274 (n % 128) by unfold Cert.KernelIdeal.lit0t0_274; rw [Nat.mod_mod]]
  exact (by decide +kernel : ∀ j : Fin 128, ZeroWord (Cert.KernelIdeal.lit0t0_274 j)) ⟨n % 128, Nat.mod_lt _ (by decide)⟩

theorem zero_276 (n : ℕ) : ZeroWord (Cert.KernelIdeal.lit0t0_276 n) := by
  rw [show Cert.KernelIdeal.lit0t0_276 n = Cert.KernelIdeal.lit0t0_276 (n % 128) by unfold Cert.KernelIdeal.lit0t0_276; rw [Nat.mod_mod]]
  exact (by decide +kernel : ∀ j : Fin 128, ZeroWord (Cert.KernelIdeal.lit0t0_276 j)) ⟨n % 128, Nat.mod_lt _ (by decide)⟩

theorem zero_278 (n : ℕ) : ZeroWord (Cert.KernelIdeal.lit0t0_278 n) := by
  rw [show Cert.KernelIdeal.lit0t0_278 n = Cert.KernelIdeal.lit0t0_278 (n % 128) by unfold Cert.KernelIdeal.lit0t0_278; rw [Nat.mod_mod]]
  exact (by decide +kernel : ∀ j : Fin 128, ZeroWord (Cert.KernelIdeal.lit0t0_278 j)) ⟨n % 128, Nat.mod_lt _ (by decide)⟩

theorem zero_280 (n : ℕ) : ZeroWord (Cert.KernelIdeal.lit0t0_280 n) := by
  rw [show Cert.KernelIdeal.lit0t0_280 n = Cert.KernelIdeal.lit0t0_280 (n % 128) by unfold Cert.KernelIdeal.lit0t0_280; rw [Nat.mod_mod]]
  exact (by decide +kernel : ∀ j : Fin 128, ZeroWord (Cert.KernelIdeal.lit0t0_280 j)) ⟨n % 128, Nat.mod_lt _ (by decide)⟩

theorem zero_282 (n : ℕ) : ZeroWord (Cert.KernelIdeal.lit0t0_282 n) := by
  rw [show Cert.KernelIdeal.lit0t0_282 n = Cert.KernelIdeal.lit0t0_282 (n % 128) by unfold Cert.KernelIdeal.lit0t0_282; rw [Nat.mod_mod]]
  exact (by decide +kernel : ∀ j : Fin 128, ZeroWord (Cert.KernelIdeal.lit0t0_282 j)) ⟨n % 128, Nat.mod_lt _ (by decide)⟩

theorem zero_284 (n : ℕ) : ZeroWord (Cert.KernelIdeal.lit0t0_284 n) := by
  rw [show Cert.KernelIdeal.lit0t0_284 n = Cert.KernelIdeal.lit0t0_284 (n % 128) by unfold Cert.KernelIdeal.lit0t0_284; rw [Nat.mod_mod]]
  exact (by decide +kernel : ∀ j : Fin 128, ZeroWord (Cert.KernelIdeal.lit0t0_284 j)) ⟨n % 128, Nat.mod_lt _ (by decide)⟩

theorem zero_286 (n : ℕ) : ZeroWord (Cert.KernelIdeal.lit0t0_286 n) := by
  rw [show Cert.KernelIdeal.lit0t0_286 n = Cert.KernelIdeal.lit0t0_286 (n % 128) by unfold Cert.KernelIdeal.lit0t0_286; rw [Nat.mod_mod]]
  exact (by decide +kernel : ∀ j : Fin 128, ZeroWord (Cert.KernelIdeal.lit0t0_286 j)) ⟨n % 128, Nat.mod_lt _ (by decide)⟩

theorem zero_288 (n : ℕ) : ZeroWord (Cert.KernelIdeal.lit0t0_288 n) := by
  rw [show Cert.KernelIdeal.lit0t0_288 n = Cert.KernelIdeal.lit0t0_288 (n % 128) by unfold Cert.KernelIdeal.lit0t0_288; rw [Nat.mod_mod]]
  exact (by decide +kernel : ∀ j : Fin 128, ZeroWord (Cert.KernelIdeal.lit0t0_288 j)) ⟨n % 128, Nat.mod_lt _ (by decide)⟩

theorem zero_290 (n : ℕ) : ZeroWord (Cert.KernelIdeal.lit0t0_290 n) := by
  rw [show Cert.KernelIdeal.lit0t0_290 n = Cert.KernelIdeal.lit0t0_290 (n % 128) by unfold Cert.KernelIdeal.lit0t0_290; rw [Nat.mod_mod]]
  exact (by decide +kernel : ∀ j : Fin 128, ZeroWord (Cert.KernelIdeal.lit0t0_290 j)) ⟨n % 128, Nat.mod_lt _ (by decide)⟩

theorem zero_292 (n : ℕ) : ZeroWord (Cert.KernelIdeal.lit0t0_292 n) := by
  rw [show Cert.KernelIdeal.lit0t0_292 n = Cert.KernelIdeal.lit0t0_292 (n % 128) by unfold Cert.KernelIdeal.lit0t0_292; rw [Nat.mod_mod]]
  exact (by decide +kernel : ∀ j : Fin 128, ZeroWord (Cert.KernelIdeal.lit0t0_292 j)) ⟨n % 128, Nat.mod_lt _ (by decide)⟩

theorem zero_294 (n : ℕ) : ZeroWord (Cert.KernelIdeal.lit0t0_294 n) := by
  rw [show Cert.KernelIdeal.lit0t0_294 n = Cert.KernelIdeal.lit0t0_294 (n % 128) by unfold Cert.KernelIdeal.lit0t0_294; rw [Nat.mod_mod]]
  exact (by decide +kernel : ∀ j : Fin 128, ZeroWord (Cert.KernelIdeal.lit0t0_294 j)) ⟨n % 128, Nat.mod_lt _ (by decide)⟩

theorem zero_296 (n : ℕ) : ZeroWord (Cert.KernelIdeal.lit0t0_296 n) := by
  rw [show Cert.KernelIdeal.lit0t0_296 n = Cert.KernelIdeal.lit0t0_296 (n % 128) by unfold Cert.KernelIdeal.lit0t0_296; rw [Nat.mod_mod]]
  exact (by decide +kernel : ∀ j : Fin 128, ZeroWord (Cert.KernelIdeal.lit0t0_296 j)) ⟨n % 128, Nat.mod_lt _ (by decide)⟩

theorem zero_298 (n : ℕ) : ZeroWord (Cert.KernelIdeal.lit0t0_298 n) := by
  rw [show Cert.KernelIdeal.lit0t0_298 n = Cert.KernelIdeal.lit0t0_298 (n % 128) by unfold Cert.KernelIdeal.lit0t0_298; rw [Nat.mod_mod]]
  exact (by decide +kernel : ∀ j : Fin 128, ZeroWord (Cert.KernelIdeal.lit0t0_298 j)) ⟨n % 128, Nat.mod_lt _ (by decide)⟩

theorem zero_300 (n : ℕ) : ZeroWord (Cert.KernelIdeal.lit0t0_300 n) := by
  rw [show Cert.KernelIdeal.lit0t0_300 n = Cert.KernelIdeal.lit0t0_300 (n % 128) by unfold Cert.KernelIdeal.lit0t0_300; rw [Nat.mod_mod]]
  exact (by decide +kernel : ∀ j : Fin 128, ZeroWord (Cert.KernelIdeal.lit0t0_300 j)) ⟨n % 128, Nat.mod_lt _ (by decide)⟩

theorem zero_302 (n : ℕ) : ZeroWord (Cert.KernelIdeal.lit0t0_302 n) := by
  rw [show Cert.KernelIdeal.lit0t0_302 n = Cert.KernelIdeal.lit0t0_302 (n % 128) by unfold Cert.KernelIdeal.lit0t0_302; rw [Nat.mod_mod]]
  exact (by decide +kernel : ∀ j : Fin 128, ZeroWord (Cert.KernelIdeal.lit0t0_302 j)) ⟨n % 128, Nat.mod_lt _ (by decide)⟩

theorem zero_304 (n : ℕ) : ZeroWord (Cert.KernelIdeal.lit0t0_304 n) := by
  rw [show Cert.KernelIdeal.lit0t0_304 n = Cert.KernelIdeal.lit0t0_304 (n % 128) by unfold Cert.KernelIdeal.lit0t0_304; rw [Nat.mod_mod]]
  exact (by decide +kernel : ∀ j : Fin 128, ZeroWord (Cert.KernelIdeal.lit0t0_304 j)) ⟨n % 128, Nat.mod_lt _ (by decide)⟩

theorem zero_306 (n : ℕ) : ZeroWord (Cert.KernelIdeal.lit0t0_306 n) := by
  rw [show Cert.KernelIdeal.lit0t0_306 n = Cert.KernelIdeal.lit0t0_306 (n % 128) by unfold Cert.KernelIdeal.lit0t0_306; rw [Nat.mod_mod]]
  exact (by decide +kernel : ∀ j : Fin 128, ZeroWord (Cert.KernelIdeal.lit0t0_306 j)) ⟨n % 128, Nat.mod_lt _ (by decide)⟩

theorem zero_308 (n : ℕ) : ZeroWord (Cert.KernelIdeal.lit0t0_308 n) := by
  rw [show Cert.KernelIdeal.lit0t0_308 n = Cert.KernelIdeal.lit0t0_308 (n % 128) by unfold Cert.KernelIdeal.lit0t0_308; rw [Nat.mod_mod]]
  exact (by decide +kernel : ∀ j : Fin 128, ZeroWord (Cert.KernelIdeal.lit0t0_308 j)) ⟨n % 128, Nat.mod_lt _ (by decide)⟩

theorem zero_310 (n : ℕ) : ZeroWord (Cert.KernelIdeal.lit0t0_310 n) := by
  rw [show Cert.KernelIdeal.lit0t0_310 n = Cert.KernelIdeal.lit0t0_310 (n % 128) by unfold Cert.KernelIdeal.lit0t0_310; rw [Nat.mod_mod]]
  exact (by decide +kernel : ∀ j : Fin 128, ZeroWord (Cert.KernelIdeal.lit0t0_310 j)) ⟨n % 128, Nat.mod_lt _ (by decide)⟩

theorem zero_312 (n : ℕ) : ZeroWord (Cert.KernelIdeal.lit0t0_312 n) := by
  rw [show Cert.KernelIdeal.lit0t0_312 n = Cert.KernelIdeal.lit0t0_312 (n % 128) by unfold Cert.KernelIdeal.lit0t0_312; rw [Nat.mod_mod]]
  exact (by decide +kernel : ∀ j : Fin 128, ZeroWord (Cert.KernelIdeal.lit0t0_312 j)) ⟨n % 128, Nat.mod_lt _ (by decide)⟩

theorem zero_314 (n : ℕ) : ZeroWord (Cert.KernelIdeal.lit0t0_314 n) := by
  rw [show Cert.KernelIdeal.lit0t0_314 n = Cert.KernelIdeal.lit0t0_314 (n % 128) by unfold Cert.KernelIdeal.lit0t0_314; rw [Nat.mod_mod]]
  exact (by decide +kernel : ∀ j : Fin 128, ZeroWord (Cert.KernelIdeal.lit0t0_314 j)) ⟨n % 128, Nat.mod_lt _ (by decide)⟩

theorem zero_316 (n : ℕ) : ZeroWord (Cert.KernelIdeal.lit0t0_316 n) := by
  rw [show Cert.KernelIdeal.lit0t0_316 n = Cert.KernelIdeal.lit0t0_316 (n % 128) by unfold Cert.KernelIdeal.lit0t0_316; rw [Nat.mod_mod]]
  exact (by decide +kernel : ∀ j : Fin 128, ZeroWord (Cert.KernelIdeal.lit0t0_316 j)) ⟨n % 128, Nat.mod_lt _ (by decide)⟩

theorem zero_318 (n : ℕ) : ZeroWord (Cert.KernelIdeal.lit0t0_318 n) := by
  rw [show Cert.KernelIdeal.lit0t0_318 n = Cert.KernelIdeal.lit0t0_318 (n % 128) by unfold Cert.KernelIdeal.lit0t0_318; rw [Nat.mod_mod]]
  exact (by decide +kernel : ∀ j : Fin 128, ZeroWord (Cert.KernelIdeal.lit0t0_318 j)) ⟨n % 128, Nat.mod_lt _ (by decide)⟩

theorem zero_320 (n : ℕ) : ZeroWord (Cert.KernelIdeal.lit0t0_320 n) := by
  rw [show Cert.KernelIdeal.lit0t0_320 n = Cert.KernelIdeal.lit0t0_320 (n % 128) by unfold Cert.KernelIdeal.lit0t0_320; rw [Nat.mod_mod]]
  exact (by decide +kernel : ∀ j : Fin 128, ZeroWord (Cert.KernelIdeal.lit0t0_320 j)) ⟨n % 128, Nat.mod_lt _ (by decide)⟩

theorem zero_322 (n : ℕ) : ZeroWord (Cert.KernelIdeal.lit0t0_322 n) := by
  rw [show Cert.KernelIdeal.lit0t0_322 n = Cert.KernelIdeal.lit0t0_322 (n % 128) by unfold Cert.KernelIdeal.lit0t0_322; rw [Nat.mod_mod]]
  exact (by decide +kernel : ∀ j : Fin 128, ZeroWord (Cert.KernelIdeal.lit0t0_322 j)) ⟨n % 128, Nat.mod_lt _ (by decide)⟩

theorem zero_324 (n : ℕ) : ZeroWord (Cert.KernelIdeal.lit0t0_324 n) := by
  rw [show Cert.KernelIdeal.lit0t0_324 n = Cert.KernelIdeal.lit0t0_324 (n % 128) by unfold Cert.KernelIdeal.lit0t0_324; rw [Nat.mod_mod]]
  exact (by decide +kernel : ∀ j : Fin 128, ZeroWord (Cert.KernelIdeal.lit0t0_324 j)) ⟨n % 128, Nat.mod_lt _ (by decide)⟩

theorem zero_326 (n : ℕ) : ZeroWord (Cert.KernelIdeal.lit0t0_326 n) := by
  rw [show Cert.KernelIdeal.lit0t0_326 n = Cert.KernelIdeal.lit0t0_326 (n % 128) by unfold Cert.KernelIdeal.lit0t0_326; rw [Nat.mod_mod]]
  exact (by decide +kernel : ∀ j : Fin 128, ZeroWord (Cert.KernelIdeal.lit0t0_326 j)) ⟨n % 128, Nat.mod_lt _ (by decide)⟩

theorem zero_328 (n : ℕ) : ZeroWord (Cert.KernelIdeal.lit0t0_328 n) := by
  rw [show Cert.KernelIdeal.lit0t0_328 n = Cert.KernelIdeal.lit0t0_328 (n % 128) by unfold Cert.KernelIdeal.lit0t0_328; rw [Nat.mod_mod]]
  exact (by decide +kernel : ∀ j : Fin 128, ZeroWord (Cert.KernelIdeal.lit0t0_328 j)) ⟨n % 128, Nat.mod_lt _ (by decide)⟩

theorem zero_330 (n : ℕ) : ZeroWord (Cert.KernelIdeal.lit0t0_330 n) := by
  rw [show Cert.KernelIdeal.lit0t0_330 n = Cert.KernelIdeal.lit0t0_330 (n % 128) by unfold Cert.KernelIdeal.lit0t0_330; rw [Nat.mod_mod]]
  exact (by decide +kernel : ∀ j : Fin 128, ZeroWord (Cert.KernelIdeal.lit0t0_330 j)) ⟨n % 128, Nat.mod_lt _ (by decide)⟩

theorem zero_332 (n : ℕ) : ZeroWord (Cert.KernelIdeal.lit0t0_332 n) := by
  rw [show Cert.KernelIdeal.lit0t0_332 n = Cert.KernelIdeal.lit0t0_332 (n % 128) by unfold Cert.KernelIdeal.lit0t0_332; rw [Nat.mod_mod]]
  exact (by decide +kernel : ∀ j : Fin 128, ZeroWord (Cert.KernelIdeal.lit0t0_332 j)) ⟨n % 128, Nat.mod_lt _ (by decide)⟩

theorem zero_334 (n : ℕ) : ZeroWord (Cert.KernelIdeal.lit0t0_334 n) := by
  rw [show Cert.KernelIdeal.lit0t0_334 n = Cert.KernelIdeal.lit0t0_334 (n % 128) by unfold Cert.KernelIdeal.lit0t0_334; rw [Nat.mod_mod]]
  exact (by decide +kernel : ∀ j : Fin 128, ZeroWord (Cert.KernelIdeal.lit0t0_334 j)) ⟨n % 128, Nat.mod_lt _ (by decide)⟩

theorem zero_336 (n : ℕ) : ZeroWord (Cert.KernelIdeal.lit0t0_336 n) := by
  rw [show Cert.KernelIdeal.lit0t0_336 n = Cert.KernelIdeal.lit0t0_336 (n % 128) by unfold Cert.KernelIdeal.lit0t0_336; rw [Nat.mod_mod]]
  exact (by decide +kernel : ∀ j : Fin 128, ZeroWord (Cert.KernelIdeal.lit0t0_336 j)) ⟨n % 128, Nat.mod_lt _ (by decide)⟩

theorem zero_338 (n : ℕ) : ZeroWord (Cert.KernelIdeal.lit0t0_338 n) := by
  rw [show Cert.KernelIdeal.lit0t0_338 n = Cert.KernelIdeal.lit0t0_338 (n % 128) by unfold Cert.KernelIdeal.lit0t0_338; rw [Nat.mod_mod]]
  exact (by decide +kernel : ∀ j : Fin 128, ZeroWord (Cert.KernelIdeal.lit0t0_338 j)) ⟨n % 128, Nat.mod_lt _ (by decide)⟩

theorem zero_340 (n : ℕ) : ZeroWord (Cert.KernelIdeal.lit0t0_340 n) := by
  rw [show Cert.KernelIdeal.lit0t0_340 n = Cert.KernelIdeal.lit0t0_340 (n % 128) by unfold Cert.KernelIdeal.lit0t0_340; rw [Nat.mod_mod]]
  exact (by decide +kernel : ∀ j : Fin 128, ZeroWord (Cert.KernelIdeal.lit0t0_340 j)) ⟨n % 128, Nat.mod_lt _ (by decide)⟩

theorem zero_342 (n : ℕ) : ZeroWord (Cert.KernelIdeal.lit0t0_342 n) := by
  rw [show Cert.KernelIdeal.lit0t0_342 n = Cert.KernelIdeal.lit0t0_342 (n % 128) by unfold Cert.KernelIdeal.lit0t0_342; rw [Nat.mod_mod]]
  exact (by decide +kernel : ∀ j : Fin 128, ZeroWord (Cert.KernelIdeal.lit0t0_342 j)) ⟨n % 128, Nat.mod_lt _ (by decide)⟩

theorem zero_344 (n : ℕ) : ZeroWord (Cert.KernelIdeal.lit0t0_344 n) := by
  rw [show Cert.KernelIdeal.lit0t0_344 n = Cert.KernelIdeal.lit0t0_344 (n % 128) by unfold Cert.KernelIdeal.lit0t0_344; rw [Nat.mod_mod]]
  exact (by decide +kernel : ∀ j : Fin 128, ZeroWord (Cert.KernelIdeal.lit0t0_344 j)) ⟨n % 128, Nat.mod_lt _ (by decide)⟩

theorem zero_346 (n : ℕ) : ZeroWord (Cert.KernelIdeal.lit0t0_346 n) := by
  rw [show Cert.KernelIdeal.lit0t0_346 n = Cert.KernelIdeal.lit0t0_346 (n % 128) by unfold Cert.KernelIdeal.lit0t0_346; rw [Nat.mod_mod]]
  exact (by decide +kernel : ∀ j : Fin 128, ZeroWord (Cert.KernelIdeal.lit0t0_346 j)) ⟨n % 128, Nat.mod_lt _ (by decide)⟩

theorem zero_348 (n : ℕ) : ZeroWord (Cert.KernelIdeal.lit0t0_348 n) := by
  rw [show Cert.KernelIdeal.lit0t0_348 n = Cert.KernelIdeal.lit0t0_348 (n % 128) by unfold Cert.KernelIdeal.lit0t0_348; rw [Nat.mod_mod]]
  exact (by decide +kernel : ∀ j : Fin 128, ZeroWord (Cert.KernelIdeal.lit0t0_348 j)) ⟨n % 128, Nat.mod_lt _ (by decide)⟩

theorem zero_350 (n : ℕ) : ZeroWord (Cert.KernelIdeal.lit0t0_350 n) := by
  rw [show Cert.KernelIdeal.lit0t0_350 n = Cert.KernelIdeal.lit0t0_350 (n % 128) by unfold Cert.KernelIdeal.lit0t0_350; rw [Nat.mod_mod]]
  exact (by decide +kernel : ∀ j : Fin 128, ZeroWord (Cert.KernelIdeal.lit0t0_350 j)) ⟨n % 128, Nat.mod_lt _ (by decide)⟩

theorem zero_352 (n : ℕ) : ZeroWord (Cert.KernelIdeal.lit0t0_352 n) := by
  rw [show Cert.KernelIdeal.lit0t0_352 n = Cert.KernelIdeal.lit0t0_352 (n % 128) by unfold Cert.KernelIdeal.lit0t0_352; rw [Nat.mod_mod]]
  exact (by decide +kernel : ∀ j : Fin 128, ZeroWord (Cert.KernelIdeal.lit0t0_352 j)) ⟨n % 128, Nat.mod_lt _ (by decide)⟩

theorem zero_354 (n : ℕ) : ZeroWord (Cert.KernelIdeal.lit0t0_354 n) := by
  rw [show Cert.KernelIdeal.lit0t0_354 n = Cert.KernelIdeal.lit0t0_354 (n % 128) by unfold Cert.KernelIdeal.lit0t0_354; rw [Nat.mod_mod]]
  exact (by decide +kernel : ∀ j : Fin 128, ZeroWord (Cert.KernelIdeal.lit0t0_354 j)) ⟨n % 128, Nat.mod_lt _ (by decide)⟩

theorem zero_356 (n : ℕ) : ZeroWord (Cert.KernelIdeal.lit0t0_356 n) := by
  rw [show Cert.KernelIdeal.lit0t0_356 n = Cert.KernelIdeal.lit0t0_356 (n % 128) by unfold Cert.KernelIdeal.lit0t0_356; rw [Nat.mod_mod]]
  exact (by decide +kernel : ∀ j : Fin 128, ZeroWord (Cert.KernelIdeal.lit0t0_356 j)) ⟨n % 128, Nat.mod_lt _ (by decide)⟩

theorem zero_358 (n : ℕ) : ZeroWord (Cert.KernelIdeal.lit0t0_358 n) := by
  rw [show Cert.KernelIdeal.lit0t0_358 n = Cert.KernelIdeal.lit0t0_358 (n % 128) by unfold Cert.KernelIdeal.lit0t0_358; rw [Nat.mod_mod]]
  exact (by decide +kernel : ∀ j : Fin 128, ZeroWord (Cert.KernelIdeal.lit0t0_358 j)) ⟨n % 128, Nat.mod_lt _ (by decide)⟩

theorem zero_360 (n : ℕ) : ZeroWord (Cert.KernelIdeal.lit0t0_360 n) := by
  rw [show Cert.KernelIdeal.lit0t0_360 n = Cert.KernelIdeal.lit0t0_360 (n % 128) by unfold Cert.KernelIdeal.lit0t0_360; rw [Nat.mod_mod]]
  exact (by decide +kernel : ∀ j : Fin 128, ZeroWord (Cert.KernelIdeal.lit0t0_360 j)) ⟨n % 128, Nat.mod_lt _ (by decide)⟩

theorem zero_362 (n : ℕ) : ZeroWord (Cert.KernelIdeal.lit0t0_362 n) := by
  rw [show Cert.KernelIdeal.lit0t0_362 n = Cert.KernelIdeal.lit0t0_362 (n % 128) by unfold Cert.KernelIdeal.lit0t0_362; rw [Nat.mod_mod]]
  exact (by decide +kernel : ∀ j : Fin 128, ZeroWord (Cert.KernelIdeal.lit0t0_362 j)) ⟨n % 128, Nat.mod_lt _ (by decide)⟩

theorem zero_364 (n : ℕ) : ZeroWord (Cert.KernelIdeal.lit0t0_364 n) := by
  rw [show Cert.KernelIdeal.lit0t0_364 n = Cert.KernelIdeal.lit0t0_364 (n % 128) by unfold Cert.KernelIdeal.lit0t0_364; rw [Nat.mod_mod]]
  exact (by decide +kernel : ∀ j : Fin 128, ZeroWord (Cert.KernelIdeal.lit0t0_364 j)) ⟨n % 128, Nat.mod_lt _ (by decide)⟩

theorem zero_366 (n : ℕ) : ZeroWord (Cert.KernelIdeal.lit0t0_366 n) := by
  rw [show Cert.KernelIdeal.lit0t0_366 n = Cert.KernelIdeal.lit0t0_366 (n % 128) by unfold Cert.KernelIdeal.lit0t0_366; rw [Nat.mod_mod]]
  exact (by decide +kernel : ∀ j : Fin 128, ZeroWord (Cert.KernelIdeal.lit0t0_366 j)) ⟨n % 128, Nat.mod_lt _ (by decide)⟩

theorem zero_368 (n : ℕ) : ZeroWord (Cert.KernelIdeal.lit0t0_368 n) := by
  rw [show Cert.KernelIdeal.lit0t0_368 n = Cert.KernelIdeal.lit0t0_368 (n % 128) by unfold Cert.KernelIdeal.lit0t0_368; rw [Nat.mod_mod]]
  exact (by decide +kernel : ∀ j : Fin 128, ZeroWord (Cert.KernelIdeal.lit0t0_368 j)) ⟨n % 128, Nat.mod_lt _ (by decide)⟩

theorem zero_370 (n : ℕ) : ZeroWord (Cert.KernelIdeal.lit0t0_370 n) := by
  rw [show Cert.KernelIdeal.lit0t0_370 n = Cert.KernelIdeal.lit0t0_370 (n % 128) by unfold Cert.KernelIdeal.lit0t0_370; rw [Nat.mod_mod]]
  exact (by decide +kernel : ∀ j : Fin 128, ZeroWord (Cert.KernelIdeal.lit0t0_370 j)) ⟨n % 128, Nat.mod_lt _ (by decide)⟩

theorem zero_372 (n : ℕ) : ZeroWord (Cert.KernelIdeal.lit0t0_372 n) := by
  rw [show Cert.KernelIdeal.lit0t0_372 n = Cert.KernelIdeal.lit0t0_372 (n % 128) by unfold Cert.KernelIdeal.lit0t0_372; rw [Nat.mod_mod]]
  exact (by decide +kernel : ∀ j : Fin 128, ZeroWord (Cert.KernelIdeal.lit0t0_372 j)) ⟨n % 128, Nat.mod_lt _ (by decide)⟩

theorem zero_374 (n : ℕ) : ZeroWord (Cert.KernelIdeal.lit0t0_374 n) := by
  rw [show Cert.KernelIdeal.lit0t0_374 n = Cert.KernelIdeal.lit0t0_374 (n % 128) by unfold Cert.KernelIdeal.lit0t0_374; rw [Nat.mod_mod]]
  exact (by decide +kernel : ∀ j : Fin 128, ZeroWord (Cert.KernelIdeal.lit0t0_374 j)) ⟨n % 128, Nat.mod_lt _ (by decide)⟩

theorem zero_376 (n : ℕ) : ZeroWord (Cert.KernelIdeal.lit0t0_376 n) := by
  rw [show Cert.KernelIdeal.lit0t0_376 n = Cert.KernelIdeal.lit0t0_376 (n % 128) by unfold Cert.KernelIdeal.lit0t0_376; rw [Nat.mod_mod]]
  exact (by decide +kernel : ∀ j : Fin 128, ZeroWord (Cert.KernelIdeal.lit0t0_376 j)) ⟨n % 128, Nat.mod_lt _ (by decide)⟩

theorem zero_378 (n : ℕ) : ZeroWord (Cert.KernelIdeal.lit0t0_378 n) := by
  rw [show Cert.KernelIdeal.lit0t0_378 n = Cert.KernelIdeal.lit0t0_378 (n % 128) by unfold Cert.KernelIdeal.lit0t0_378; rw [Nat.mod_mod]]
  exact (by decide +kernel : ∀ j : Fin 128, ZeroWord (Cert.KernelIdeal.lit0t0_378 j)) ⟨n % 128, Nat.mod_lt _ (by decide)⟩

theorem zero_380 (n : ℕ) : ZeroWord (Cert.KernelIdeal.lit0t0_380 n) := by
  rw [show Cert.KernelIdeal.lit0t0_380 n = Cert.KernelIdeal.lit0t0_380 (n % 128) by unfold Cert.KernelIdeal.lit0t0_380; rw [Nat.mod_mod]]
  exact (by decide +kernel : ∀ j : Fin 128, ZeroWord (Cert.KernelIdeal.lit0t0_380 j)) ⟨n % 128, Nat.mod_lt _ (by decide)⟩

theorem zero_382 (n : ℕ) : ZeroWord (Cert.KernelIdeal.lit0t0_382 n) := by
  rw [show Cert.KernelIdeal.lit0t0_382 n = Cert.KernelIdeal.lit0t0_382 (n % 128) by unfold Cert.KernelIdeal.lit0t0_382; rw [Nat.mod_mod]]
  exact (by decide +kernel : ∀ j : Fin 128, ZeroWord (Cert.KernelIdeal.lit0t0_382 j)) ⟨n % 128, Nat.mod_lt _ (by decide)⟩

/-- The runs of rows 128 to 191 off the diagonal block are zero. -/
theorem run2_zero (b n : ℕ) (hb : b < 64) : ZeroWord (run2 (2 * b) n) := match b with
  | 0 => zero_256 n
  | 1 => zero_258 n
  | 2 => zero_260 n
  | 3 => zero_262 n
  | 4 => zero_264 n
  | 5 => zero_266 n
  | 6 => zero_268 n
  | 7 => zero_270 n
  | 8 => zero_272 n
  | 9 => zero_274 n
  | 10 => zero_276 n
  | 11 => zero_278 n
  | 12 => zero_280 n
  | 13 => zero_282 n
  | 14 => zero_284 n
  | 15 => zero_286 n
  | 16 => zero_288 n
  | 17 => zero_290 n
  | 18 => zero_292 n
  | 19 => zero_294 n
  | 20 => zero_296 n
  | 21 => zero_298 n
  | 22 => zero_300 n
  | 23 => zero_302 n
  | 24 => zero_304 n
  | 25 => zero_306 n
  | 26 => zero_308 n
  | 27 => zero_310 n
  | 28 => zero_312 n
  | 29 => zero_314 n
  | 30 => zero_316 n
  | 31 => zero_318 n
  | 32 => zero_320 n
  | 33 => zero_322 n
  | 34 => zero_324 n
  | 35 => zero_326 n
  | 36 => zero_328 n
  | 37 => zero_330 n
  | 38 => zero_332 n
  | 39 => zero_334 n
  | 40 => zero_336 n
  | 41 => zero_338 n
  | 42 => zero_340 n
  | 43 => zero_342 n
  | 44 => zero_344 n
  | 45 => zero_346 n
  | 46 => zero_348 n
  | 47 => zero_350 n
  | 48 => zero_352 n
  | 49 => zero_354 n
  | 50 => zero_356 n
  | 51 => zero_358 n
  | 52 => zero_360 n
  | 53 => zero_362 n
  | 54 => zero_364 n
  | 55 => zero_366 n
  | 56 => zero_368 n
  | 57 => zero_370 n
  | 58 => zero_372 n
  | 59 => zero_374 n
  | 60 => zero_376 n
  | 61 => zero_378 n
  | 62 => zero_380 n
  | 63 => zero_382 n
  | k + 64 => absurd hb (by omega)

theorem zero_384 (n : ℕ) : ZeroWord (Cert.KernelIdeal.lit0t0_384 n) := by
  rw [show Cert.KernelIdeal.lit0t0_384 n = Cert.KernelIdeal.lit0t0_384 (n % 128) by unfold Cert.KernelIdeal.lit0t0_384; rw [Nat.mod_mod]]
  exact (by decide +kernel : ∀ j : Fin 128, ZeroWord (Cert.KernelIdeal.lit0t0_384 j)) ⟨n % 128, Nat.mod_lt _ (by decide)⟩

theorem zero_386 (n : ℕ) : ZeroWord (Cert.KernelIdeal.lit0t0_386 n) := by
  rw [show Cert.KernelIdeal.lit0t0_386 n = Cert.KernelIdeal.lit0t0_386 (n % 128) by unfold Cert.KernelIdeal.lit0t0_386; rw [Nat.mod_mod]]
  exact (by decide +kernel : ∀ j : Fin 128, ZeroWord (Cert.KernelIdeal.lit0t0_386 j)) ⟨n % 128, Nat.mod_lt _ (by decide)⟩

theorem zero_388 (n : ℕ) : ZeroWord (Cert.KernelIdeal.lit0t0_388 n) := by
  rw [show Cert.KernelIdeal.lit0t0_388 n = Cert.KernelIdeal.lit0t0_388 (n % 128) by unfold Cert.KernelIdeal.lit0t0_388; rw [Nat.mod_mod]]
  exact (by decide +kernel : ∀ j : Fin 128, ZeroWord (Cert.KernelIdeal.lit0t0_388 j)) ⟨n % 128, Nat.mod_lt _ (by decide)⟩

theorem zero_390 (n : ℕ) : ZeroWord (Cert.KernelIdeal.lit0t0_390 n) := by
  rw [show Cert.KernelIdeal.lit0t0_390 n = Cert.KernelIdeal.lit0t0_390 (n % 128) by unfold Cert.KernelIdeal.lit0t0_390; rw [Nat.mod_mod]]
  exact (by decide +kernel : ∀ j : Fin 128, ZeroWord (Cert.KernelIdeal.lit0t0_390 j)) ⟨n % 128, Nat.mod_lt _ (by decide)⟩

theorem zero_392 (n : ℕ) : ZeroWord (Cert.KernelIdeal.lit0t0_392 n) := by
  rw [show Cert.KernelIdeal.lit0t0_392 n = Cert.KernelIdeal.lit0t0_392 (n % 128) by unfold Cert.KernelIdeal.lit0t0_392; rw [Nat.mod_mod]]
  exact (by decide +kernel : ∀ j : Fin 128, ZeroWord (Cert.KernelIdeal.lit0t0_392 j)) ⟨n % 128, Nat.mod_lt _ (by decide)⟩

theorem zero_394 (n : ℕ) : ZeroWord (Cert.KernelIdeal.lit0t0_394 n) := by
  rw [show Cert.KernelIdeal.lit0t0_394 n = Cert.KernelIdeal.lit0t0_394 (n % 128) by unfold Cert.KernelIdeal.lit0t0_394; rw [Nat.mod_mod]]
  exact (by decide +kernel : ∀ j : Fin 128, ZeroWord (Cert.KernelIdeal.lit0t0_394 j)) ⟨n % 128, Nat.mod_lt _ (by decide)⟩

theorem zero_396 (n : ℕ) : ZeroWord (Cert.KernelIdeal.lit0t0_396 n) := by
  rw [show Cert.KernelIdeal.lit0t0_396 n = Cert.KernelIdeal.lit0t0_396 (n % 128) by unfold Cert.KernelIdeal.lit0t0_396; rw [Nat.mod_mod]]
  exact (by decide +kernel : ∀ j : Fin 128, ZeroWord (Cert.KernelIdeal.lit0t0_396 j)) ⟨n % 128, Nat.mod_lt _ (by decide)⟩

theorem zero_398 (n : ℕ) : ZeroWord (Cert.KernelIdeal.lit0t0_398 n) := by
  rw [show Cert.KernelIdeal.lit0t0_398 n = Cert.KernelIdeal.lit0t0_398 (n % 128) by unfold Cert.KernelIdeal.lit0t0_398; rw [Nat.mod_mod]]
  exact (by decide +kernel : ∀ j : Fin 128, ZeroWord (Cert.KernelIdeal.lit0t0_398 j)) ⟨n % 128, Nat.mod_lt _ (by decide)⟩

theorem zero_400 (n : ℕ) : ZeroWord (Cert.KernelIdeal.lit0t0_400 n) := by
  rw [show Cert.KernelIdeal.lit0t0_400 n = Cert.KernelIdeal.lit0t0_400 (n % 128) by unfold Cert.KernelIdeal.lit0t0_400; rw [Nat.mod_mod]]
  exact (by decide +kernel : ∀ j : Fin 128, ZeroWord (Cert.KernelIdeal.lit0t0_400 j)) ⟨n % 128, Nat.mod_lt _ (by decide)⟩

theorem zero_402 (n : ℕ) : ZeroWord (Cert.KernelIdeal.lit0t0_402 n) := by
  rw [show Cert.KernelIdeal.lit0t0_402 n = Cert.KernelIdeal.lit0t0_402 (n % 128) by unfold Cert.KernelIdeal.lit0t0_402; rw [Nat.mod_mod]]
  exact (by decide +kernel : ∀ j : Fin 128, ZeroWord (Cert.KernelIdeal.lit0t0_402 j)) ⟨n % 128, Nat.mod_lt _ (by decide)⟩

theorem zero_404 (n : ℕ) : ZeroWord (Cert.KernelIdeal.lit0t0_404 n) := by
  rw [show Cert.KernelIdeal.lit0t0_404 n = Cert.KernelIdeal.lit0t0_404 (n % 128) by unfold Cert.KernelIdeal.lit0t0_404; rw [Nat.mod_mod]]
  exact (by decide +kernel : ∀ j : Fin 128, ZeroWord (Cert.KernelIdeal.lit0t0_404 j)) ⟨n % 128, Nat.mod_lt _ (by decide)⟩

theorem zero_406 (n : ℕ) : ZeroWord (Cert.KernelIdeal.lit0t0_406 n) := by
  rw [show Cert.KernelIdeal.lit0t0_406 n = Cert.KernelIdeal.lit0t0_406 (n % 128) by unfold Cert.KernelIdeal.lit0t0_406; rw [Nat.mod_mod]]
  exact (by decide +kernel : ∀ j : Fin 128, ZeroWord (Cert.KernelIdeal.lit0t0_406 j)) ⟨n % 128, Nat.mod_lt _ (by decide)⟩

theorem zero_408 (n : ℕ) : ZeroWord (Cert.KernelIdeal.lit0t0_408 n) := by
  rw [show Cert.KernelIdeal.lit0t0_408 n = Cert.KernelIdeal.lit0t0_408 (n % 128) by unfold Cert.KernelIdeal.lit0t0_408; rw [Nat.mod_mod]]
  exact (by decide +kernel : ∀ j : Fin 128, ZeroWord (Cert.KernelIdeal.lit0t0_408 j)) ⟨n % 128, Nat.mod_lt _ (by decide)⟩

theorem zero_410 (n : ℕ) : ZeroWord (Cert.KernelIdeal.lit0t0_410 n) := by
  rw [show Cert.KernelIdeal.lit0t0_410 n = Cert.KernelIdeal.lit0t0_410 (n % 128) by unfold Cert.KernelIdeal.lit0t0_410; rw [Nat.mod_mod]]
  exact (by decide +kernel : ∀ j : Fin 128, ZeroWord (Cert.KernelIdeal.lit0t0_410 j)) ⟨n % 128, Nat.mod_lt _ (by decide)⟩

theorem zero_412 (n : ℕ) : ZeroWord (Cert.KernelIdeal.lit0t0_412 n) := by
  rw [show Cert.KernelIdeal.lit0t0_412 n = Cert.KernelIdeal.lit0t0_412 (n % 128) by unfold Cert.KernelIdeal.lit0t0_412; rw [Nat.mod_mod]]
  exact (by decide +kernel : ∀ j : Fin 128, ZeroWord (Cert.KernelIdeal.lit0t0_412 j)) ⟨n % 128, Nat.mod_lt _ (by decide)⟩

theorem zero_414 (n : ℕ) : ZeroWord (Cert.KernelIdeal.lit0t0_414 n) := by
  rw [show Cert.KernelIdeal.lit0t0_414 n = Cert.KernelIdeal.lit0t0_414 (n % 128) by unfold Cert.KernelIdeal.lit0t0_414; rw [Nat.mod_mod]]
  exact (by decide +kernel : ∀ j : Fin 128, ZeroWord (Cert.KernelIdeal.lit0t0_414 j)) ⟨n % 128, Nat.mod_lt _ (by decide)⟩

theorem zero_416 (n : ℕ) : ZeroWord (Cert.KernelIdeal.lit0t0_416 n) := by
  rw [show Cert.KernelIdeal.lit0t0_416 n = Cert.KernelIdeal.lit0t0_416 (n % 128) by unfold Cert.KernelIdeal.lit0t0_416; rw [Nat.mod_mod]]
  exact (by decide +kernel : ∀ j : Fin 128, ZeroWord (Cert.KernelIdeal.lit0t0_416 j)) ⟨n % 128, Nat.mod_lt _ (by decide)⟩

theorem zero_418 (n : ℕ) : ZeroWord (Cert.KernelIdeal.lit0t0_418 n) := by
  rw [show Cert.KernelIdeal.lit0t0_418 n = Cert.KernelIdeal.lit0t0_418 (n % 128) by unfold Cert.KernelIdeal.lit0t0_418; rw [Nat.mod_mod]]
  exact (by decide +kernel : ∀ j : Fin 128, ZeroWord (Cert.KernelIdeal.lit0t0_418 j)) ⟨n % 128, Nat.mod_lt _ (by decide)⟩

theorem zero_420 (n : ℕ) : ZeroWord (Cert.KernelIdeal.lit0t0_420 n) := by
  rw [show Cert.KernelIdeal.lit0t0_420 n = Cert.KernelIdeal.lit0t0_420 (n % 128) by unfold Cert.KernelIdeal.lit0t0_420; rw [Nat.mod_mod]]
  exact (by decide +kernel : ∀ j : Fin 128, ZeroWord (Cert.KernelIdeal.lit0t0_420 j)) ⟨n % 128, Nat.mod_lt _ (by decide)⟩

theorem zero_422 (n : ℕ) : ZeroWord (Cert.KernelIdeal.lit0t0_422 n) := by
  rw [show Cert.KernelIdeal.lit0t0_422 n = Cert.KernelIdeal.lit0t0_422 (n % 128) by unfold Cert.KernelIdeal.lit0t0_422; rw [Nat.mod_mod]]
  exact (by decide +kernel : ∀ j : Fin 128, ZeroWord (Cert.KernelIdeal.lit0t0_422 j)) ⟨n % 128, Nat.mod_lt _ (by decide)⟩

theorem zero_424 (n : ℕ) : ZeroWord (Cert.KernelIdeal.lit0t0_424 n) := by
  rw [show Cert.KernelIdeal.lit0t0_424 n = Cert.KernelIdeal.lit0t0_424 (n % 128) by unfold Cert.KernelIdeal.lit0t0_424; rw [Nat.mod_mod]]
  exact (by decide +kernel : ∀ j : Fin 128, ZeroWord (Cert.KernelIdeal.lit0t0_424 j)) ⟨n % 128, Nat.mod_lt _ (by decide)⟩

theorem zero_426 (n : ℕ) : ZeroWord (Cert.KernelIdeal.lit0t0_426 n) := by
  rw [show Cert.KernelIdeal.lit0t0_426 n = Cert.KernelIdeal.lit0t0_426 (n % 128) by unfold Cert.KernelIdeal.lit0t0_426; rw [Nat.mod_mod]]
  exact (by decide +kernel : ∀ j : Fin 128, ZeroWord (Cert.KernelIdeal.lit0t0_426 j)) ⟨n % 128, Nat.mod_lt _ (by decide)⟩

theorem zero_428 (n : ℕ) : ZeroWord (Cert.KernelIdeal.lit0t0_428 n) := by
  rw [show Cert.KernelIdeal.lit0t0_428 n = Cert.KernelIdeal.lit0t0_428 (n % 128) by unfold Cert.KernelIdeal.lit0t0_428; rw [Nat.mod_mod]]
  exact (by decide +kernel : ∀ j : Fin 128, ZeroWord (Cert.KernelIdeal.lit0t0_428 j)) ⟨n % 128, Nat.mod_lt _ (by decide)⟩

theorem zero_430 (n : ℕ) : ZeroWord (Cert.KernelIdeal.lit0t0_430 n) := by
  rw [show Cert.KernelIdeal.lit0t0_430 n = Cert.KernelIdeal.lit0t0_430 (n % 128) by unfold Cert.KernelIdeal.lit0t0_430; rw [Nat.mod_mod]]
  exact (by decide +kernel : ∀ j : Fin 128, ZeroWord (Cert.KernelIdeal.lit0t0_430 j)) ⟨n % 128, Nat.mod_lt _ (by decide)⟩

theorem zero_432 (n : ℕ) : ZeroWord (Cert.KernelIdeal.lit0t0_432 n) := by
  rw [show Cert.KernelIdeal.lit0t0_432 n = Cert.KernelIdeal.lit0t0_432 (n % 128) by unfold Cert.KernelIdeal.lit0t0_432; rw [Nat.mod_mod]]
  exact (by decide +kernel : ∀ j : Fin 128, ZeroWord (Cert.KernelIdeal.lit0t0_432 j)) ⟨n % 128, Nat.mod_lt _ (by decide)⟩

theorem zero_434 (n : ℕ) : ZeroWord (Cert.KernelIdeal.lit0t0_434 n) := by
  rw [show Cert.KernelIdeal.lit0t0_434 n = Cert.KernelIdeal.lit0t0_434 (n % 128) by unfold Cert.KernelIdeal.lit0t0_434; rw [Nat.mod_mod]]
  exact (by decide +kernel : ∀ j : Fin 128, ZeroWord (Cert.KernelIdeal.lit0t0_434 j)) ⟨n % 128, Nat.mod_lt _ (by decide)⟩

theorem zero_436 (n : ℕ) : ZeroWord (Cert.KernelIdeal.lit0t0_436 n) := by
  rw [show Cert.KernelIdeal.lit0t0_436 n = Cert.KernelIdeal.lit0t0_436 (n % 128) by unfold Cert.KernelIdeal.lit0t0_436; rw [Nat.mod_mod]]
  exact (by decide +kernel : ∀ j : Fin 128, ZeroWord (Cert.KernelIdeal.lit0t0_436 j)) ⟨n % 128, Nat.mod_lt _ (by decide)⟩

theorem zero_438 (n : ℕ) : ZeroWord (Cert.KernelIdeal.lit0t0_438 n) := by
  rw [show Cert.KernelIdeal.lit0t0_438 n = Cert.KernelIdeal.lit0t0_438 (n % 128) by unfold Cert.KernelIdeal.lit0t0_438; rw [Nat.mod_mod]]
  exact (by decide +kernel : ∀ j : Fin 128, ZeroWord (Cert.KernelIdeal.lit0t0_438 j)) ⟨n % 128, Nat.mod_lt _ (by decide)⟩

theorem zero_440 (n : ℕ) : ZeroWord (Cert.KernelIdeal.lit0t0_440 n) := by
  rw [show Cert.KernelIdeal.lit0t0_440 n = Cert.KernelIdeal.lit0t0_440 (n % 128) by unfold Cert.KernelIdeal.lit0t0_440; rw [Nat.mod_mod]]
  exact (by decide +kernel : ∀ j : Fin 128, ZeroWord (Cert.KernelIdeal.lit0t0_440 j)) ⟨n % 128, Nat.mod_lt _ (by decide)⟩

theorem zero_442 (n : ℕ) : ZeroWord (Cert.KernelIdeal.lit0t0_442 n) := by
  rw [show Cert.KernelIdeal.lit0t0_442 n = Cert.KernelIdeal.lit0t0_442 (n % 128) by unfold Cert.KernelIdeal.lit0t0_442; rw [Nat.mod_mod]]
  exact (by decide +kernel : ∀ j : Fin 128, ZeroWord (Cert.KernelIdeal.lit0t0_442 j)) ⟨n % 128, Nat.mod_lt _ (by decide)⟩

theorem zero_444 (n : ℕ) : ZeroWord (Cert.KernelIdeal.lit0t0_444 n) := by
  rw [show Cert.KernelIdeal.lit0t0_444 n = Cert.KernelIdeal.lit0t0_444 (n % 128) by unfold Cert.KernelIdeal.lit0t0_444; rw [Nat.mod_mod]]
  exact (by decide +kernel : ∀ j : Fin 128, ZeroWord (Cert.KernelIdeal.lit0t0_444 j)) ⟨n % 128, Nat.mod_lt _ (by decide)⟩

theorem zero_446 (n : ℕ) : ZeroWord (Cert.KernelIdeal.lit0t0_446 n) := by
  rw [show Cert.KernelIdeal.lit0t0_446 n = Cert.KernelIdeal.lit0t0_446 (n % 128) by unfold Cert.KernelIdeal.lit0t0_446; rw [Nat.mod_mod]]
  exact (by decide +kernel : ∀ j : Fin 128, ZeroWord (Cert.KernelIdeal.lit0t0_446 j)) ⟨n % 128, Nat.mod_lt _ (by decide)⟩

theorem zero_448 (n : ℕ) : ZeroWord (Cert.KernelIdeal.lit0t0_448 n) := by
  rw [show Cert.KernelIdeal.lit0t0_448 n = Cert.KernelIdeal.lit0t0_448 (n % 128) by unfold Cert.KernelIdeal.lit0t0_448; rw [Nat.mod_mod]]
  exact (by decide +kernel : ∀ j : Fin 128, ZeroWord (Cert.KernelIdeal.lit0t0_448 j)) ⟨n % 128, Nat.mod_lt _ (by decide)⟩

theorem zero_450 (n : ℕ) : ZeroWord (Cert.KernelIdeal.lit0t0_450 n) := by
  rw [show Cert.KernelIdeal.lit0t0_450 n = Cert.KernelIdeal.lit0t0_450 (n % 128) by unfold Cert.KernelIdeal.lit0t0_450; rw [Nat.mod_mod]]
  exact (by decide +kernel : ∀ j : Fin 128, ZeroWord (Cert.KernelIdeal.lit0t0_450 j)) ⟨n % 128, Nat.mod_lt _ (by decide)⟩

theorem zero_452 (n : ℕ) : ZeroWord (Cert.KernelIdeal.lit0t0_452 n) := by
  rw [show Cert.KernelIdeal.lit0t0_452 n = Cert.KernelIdeal.lit0t0_452 (n % 128) by unfold Cert.KernelIdeal.lit0t0_452; rw [Nat.mod_mod]]
  exact (by decide +kernel : ∀ j : Fin 128, ZeroWord (Cert.KernelIdeal.lit0t0_452 j)) ⟨n % 128, Nat.mod_lt _ (by decide)⟩

theorem zero_454 (n : ℕ) : ZeroWord (Cert.KernelIdeal.lit0t0_454 n) := by
  rw [show Cert.KernelIdeal.lit0t0_454 n = Cert.KernelIdeal.lit0t0_454 (n % 128) by unfold Cert.KernelIdeal.lit0t0_454; rw [Nat.mod_mod]]
  exact (by decide +kernel : ∀ j : Fin 128, ZeroWord (Cert.KernelIdeal.lit0t0_454 j)) ⟨n % 128, Nat.mod_lt _ (by decide)⟩

theorem zero_456 (n : ℕ) : ZeroWord (Cert.KernelIdeal.lit0t0_456 n) := by
  rw [show Cert.KernelIdeal.lit0t0_456 n = Cert.KernelIdeal.lit0t0_456 (n % 128) by unfold Cert.KernelIdeal.lit0t0_456; rw [Nat.mod_mod]]
  exact (by decide +kernel : ∀ j : Fin 128, ZeroWord (Cert.KernelIdeal.lit0t0_456 j)) ⟨n % 128, Nat.mod_lt _ (by decide)⟩

theorem zero_458 (n : ℕ) : ZeroWord (Cert.KernelIdeal.lit0t0_458 n) := by
  rw [show Cert.KernelIdeal.lit0t0_458 n = Cert.KernelIdeal.lit0t0_458 (n % 128) by unfold Cert.KernelIdeal.lit0t0_458; rw [Nat.mod_mod]]
  exact (by decide +kernel : ∀ j : Fin 128, ZeroWord (Cert.KernelIdeal.lit0t0_458 j)) ⟨n % 128, Nat.mod_lt _ (by decide)⟩

theorem zero_460 (n : ℕ) : ZeroWord (Cert.KernelIdeal.lit0t0_460 n) := by
  rw [show Cert.KernelIdeal.lit0t0_460 n = Cert.KernelIdeal.lit0t0_460 (n % 128) by unfold Cert.KernelIdeal.lit0t0_460; rw [Nat.mod_mod]]
  exact (by decide +kernel : ∀ j : Fin 128, ZeroWord (Cert.KernelIdeal.lit0t0_460 j)) ⟨n % 128, Nat.mod_lt _ (by decide)⟩

theorem zero_462 (n : ℕ) : ZeroWord (Cert.KernelIdeal.lit0t0_462 n) := by
  rw [show Cert.KernelIdeal.lit0t0_462 n = Cert.KernelIdeal.lit0t0_462 (n % 128) by unfold Cert.KernelIdeal.lit0t0_462; rw [Nat.mod_mod]]
  exact (by decide +kernel : ∀ j : Fin 128, ZeroWord (Cert.KernelIdeal.lit0t0_462 j)) ⟨n % 128, Nat.mod_lt _ (by decide)⟩

theorem zero_464 (n : ℕ) : ZeroWord (Cert.KernelIdeal.lit0t0_464 n) := by
  rw [show Cert.KernelIdeal.lit0t0_464 n = Cert.KernelIdeal.lit0t0_464 (n % 128) by unfold Cert.KernelIdeal.lit0t0_464; rw [Nat.mod_mod]]
  exact (by decide +kernel : ∀ j : Fin 128, ZeroWord (Cert.KernelIdeal.lit0t0_464 j)) ⟨n % 128, Nat.mod_lt _ (by decide)⟩

theorem zero_466 (n : ℕ) : ZeroWord (Cert.KernelIdeal.lit0t0_466 n) := by
  rw [show Cert.KernelIdeal.lit0t0_466 n = Cert.KernelIdeal.lit0t0_466 (n % 128) by unfold Cert.KernelIdeal.lit0t0_466; rw [Nat.mod_mod]]
  exact (by decide +kernel : ∀ j : Fin 128, ZeroWord (Cert.KernelIdeal.lit0t0_466 j)) ⟨n % 128, Nat.mod_lt _ (by decide)⟩

theorem zero_468 (n : ℕ) : ZeroWord (Cert.KernelIdeal.lit0t0_468 n) := by
  rw [show Cert.KernelIdeal.lit0t0_468 n = Cert.KernelIdeal.lit0t0_468 (n % 128) by unfold Cert.KernelIdeal.lit0t0_468; rw [Nat.mod_mod]]
  exact (by decide +kernel : ∀ j : Fin 128, ZeroWord (Cert.KernelIdeal.lit0t0_468 j)) ⟨n % 128, Nat.mod_lt _ (by decide)⟩

theorem zero_470 (n : ℕ) : ZeroWord (Cert.KernelIdeal.lit0t0_470 n) := by
  rw [show Cert.KernelIdeal.lit0t0_470 n = Cert.KernelIdeal.lit0t0_470 (n % 128) by unfold Cert.KernelIdeal.lit0t0_470; rw [Nat.mod_mod]]
  exact (by decide +kernel : ∀ j : Fin 128, ZeroWord (Cert.KernelIdeal.lit0t0_470 j)) ⟨n % 128, Nat.mod_lt _ (by decide)⟩

theorem zero_472 (n : ℕ) : ZeroWord (Cert.KernelIdeal.lit0t0_472 n) := by
  rw [show Cert.KernelIdeal.lit0t0_472 n = Cert.KernelIdeal.lit0t0_472 (n % 128) by unfold Cert.KernelIdeal.lit0t0_472; rw [Nat.mod_mod]]
  exact (by decide +kernel : ∀ j : Fin 128, ZeroWord (Cert.KernelIdeal.lit0t0_472 j)) ⟨n % 128, Nat.mod_lt _ (by decide)⟩

theorem zero_474 (n : ℕ) : ZeroWord (Cert.KernelIdeal.lit0t0_474 n) := by
  rw [show Cert.KernelIdeal.lit0t0_474 n = Cert.KernelIdeal.lit0t0_474 (n % 128) by unfold Cert.KernelIdeal.lit0t0_474; rw [Nat.mod_mod]]
  exact (by decide +kernel : ∀ j : Fin 128, ZeroWord (Cert.KernelIdeal.lit0t0_474 j)) ⟨n % 128, Nat.mod_lt _ (by decide)⟩

theorem zero_476 (n : ℕ) : ZeroWord (Cert.KernelIdeal.lit0t0_476 n) := by
  rw [show Cert.KernelIdeal.lit0t0_476 n = Cert.KernelIdeal.lit0t0_476 (n % 128) by unfold Cert.KernelIdeal.lit0t0_476; rw [Nat.mod_mod]]
  exact (by decide +kernel : ∀ j : Fin 128, ZeroWord (Cert.KernelIdeal.lit0t0_476 j)) ⟨n % 128, Nat.mod_lt _ (by decide)⟩

theorem zero_478 (n : ℕ) : ZeroWord (Cert.KernelIdeal.lit0t0_478 n) := by
  rw [show Cert.KernelIdeal.lit0t0_478 n = Cert.KernelIdeal.lit0t0_478 (n % 128) by unfold Cert.KernelIdeal.lit0t0_478; rw [Nat.mod_mod]]
  exact (by decide +kernel : ∀ j : Fin 128, ZeroWord (Cert.KernelIdeal.lit0t0_478 j)) ⟨n % 128, Nat.mod_lt _ (by decide)⟩

theorem zero_480 (n : ℕ) : ZeroWord (Cert.KernelIdeal.lit0t0_480 n) := by
  rw [show Cert.KernelIdeal.lit0t0_480 n = Cert.KernelIdeal.lit0t0_480 (n % 128) by unfold Cert.KernelIdeal.lit0t0_480; rw [Nat.mod_mod]]
  exact (by decide +kernel : ∀ j : Fin 128, ZeroWord (Cert.KernelIdeal.lit0t0_480 j)) ⟨n % 128, Nat.mod_lt _ (by decide)⟩

theorem zero_482 (n : ℕ) : ZeroWord (Cert.KernelIdeal.lit0t0_482 n) := by
  rw [show Cert.KernelIdeal.lit0t0_482 n = Cert.KernelIdeal.lit0t0_482 (n % 128) by unfold Cert.KernelIdeal.lit0t0_482; rw [Nat.mod_mod]]
  exact (by decide +kernel : ∀ j : Fin 128, ZeroWord (Cert.KernelIdeal.lit0t0_482 j)) ⟨n % 128, Nat.mod_lt _ (by decide)⟩

theorem zero_484 (n : ℕ) : ZeroWord (Cert.KernelIdeal.lit0t0_484 n) := by
  rw [show Cert.KernelIdeal.lit0t0_484 n = Cert.KernelIdeal.lit0t0_484 (n % 128) by unfold Cert.KernelIdeal.lit0t0_484; rw [Nat.mod_mod]]
  exact (by decide +kernel : ∀ j : Fin 128, ZeroWord (Cert.KernelIdeal.lit0t0_484 j)) ⟨n % 128, Nat.mod_lt _ (by decide)⟩

theorem zero_486 (n : ℕ) : ZeroWord (Cert.KernelIdeal.lit0t0_486 n) := by
  rw [show Cert.KernelIdeal.lit0t0_486 n = Cert.KernelIdeal.lit0t0_486 (n % 128) by unfold Cert.KernelIdeal.lit0t0_486; rw [Nat.mod_mod]]
  exact (by decide +kernel : ∀ j : Fin 128, ZeroWord (Cert.KernelIdeal.lit0t0_486 j)) ⟨n % 128, Nat.mod_lt _ (by decide)⟩

theorem zero_488 (n : ℕ) : ZeroWord (Cert.KernelIdeal.lit0t0_488 n) := by
  rw [show Cert.KernelIdeal.lit0t0_488 n = Cert.KernelIdeal.lit0t0_488 (n % 128) by unfold Cert.KernelIdeal.lit0t0_488; rw [Nat.mod_mod]]
  exact (by decide +kernel : ∀ j : Fin 128, ZeroWord (Cert.KernelIdeal.lit0t0_488 j)) ⟨n % 128, Nat.mod_lt _ (by decide)⟩

theorem zero_490 (n : ℕ) : ZeroWord (Cert.KernelIdeal.lit0t0_490 n) := by
  rw [show Cert.KernelIdeal.lit0t0_490 n = Cert.KernelIdeal.lit0t0_490 (n % 128) by unfold Cert.KernelIdeal.lit0t0_490; rw [Nat.mod_mod]]
  exact (by decide +kernel : ∀ j : Fin 128, ZeroWord (Cert.KernelIdeal.lit0t0_490 j)) ⟨n % 128, Nat.mod_lt _ (by decide)⟩

theorem zero_492 (n : ℕ) : ZeroWord (Cert.KernelIdeal.lit0t0_492 n) := by
  rw [show Cert.KernelIdeal.lit0t0_492 n = Cert.KernelIdeal.lit0t0_492 (n % 128) by unfold Cert.KernelIdeal.lit0t0_492; rw [Nat.mod_mod]]
  exact (by decide +kernel : ∀ j : Fin 128, ZeroWord (Cert.KernelIdeal.lit0t0_492 j)) ⟨n % 128, Nat.mod_lt _ (by decide)⟩

theorem zero_494 (n : ℕ) : ZeroWord (Cert.KernelIdeal.lit0t0_494 n) := by
  rw [show Cert.KernelIdeal.lit0t0_494 n = Cert.KernelIdeal.lit0t0_494 (n % 128) by unfold Cert.KernelIdeal.lit0t0_494; rw [Nat.mod_mod]]
  exact (by decide +kernel : ∀ j : Fin 128, ZeroWord (Cert.KernelIdeal.lit0t0_494 j)) ⟨n % 128, Nat.mod_lt _ (by decide)⟩

theorem zero_496 (n : ℕ) : ZeroWord (Cert.KernelIdeal.lit0t0_496 n) := by
  rw [show Cert.KernelIdeal.lit0t0_496 n = Cert.KernelIdeal.lit0t0_496 (n % 128) by unfold Cert.KernelIdeal.lit0t0_496; rw [Nat.mod_mod]]
  exact (by decide +kernel : ∀ j : Fin 128, ZeroWord (Cert.KernelIdeal.lit0t0_496 j)) ⟨n % 128, Nat.mod_lt _ (by decide)⟩

theorem zero_498 (n : ℕ) : ZeroWord (Cert.KernelIdeal.lit0t0_498 n) := by
  rw [show Cert.KernelIdeal.lit0t0_498 n = Cert.KernelIdeal.lit0t0_498 (n % 128) by unfold Cert.KernelIdeal.lit0t0_498; rw [Nat.mod_mod]]
  exact (by decide +kernel : ∀ j : Fin 128, ZeroWord (Cert.KernelIdeal.lit0t0_498 j)) ⟨n % 128, Nat.mod_lt _ (by decide)⟩

theorem zero_500 (n : ℕ) : ZeroWord (Cert.KernelIdeal.lit0t0_500 n) := by
  rw [show Cert.KernelIdeal.lit0t0_500 n = Cert.KernelIdeal.lit0t0_500 (n % 128) by unfold Cert.KernelIdeal.lit0t0_500; rw [Nat.mod_mod]]
  exact (by decide +kernel : ∀ j : Fin 128, ZeroWord (Cert.KernelIdeal.lit0t0_500 j)) ⟨n % 128, Nat.mod_lt _ (by decide)⟩

theorem zero_502 (n : ℕ) : ZeroWord (Cert.KernelIdeal.lit0t0_502 n) := by
  rw [show Cert.KernelIdeal.lit0t0_502 n = Cert.KernelIdeal.lit0t0_502 (n % 128) by unfold Cert.KernelIdeal.lit0t0_502; rw [Nat.mod_mod]]
  exact (by decide +kernel : ∀ j : Fin 128, ZeroWord (Cert.KernelIdeal.lit0t0_502 j)) ⟨n % 128, Nat.mod_lt _ (by decide)⟩

theorem zero_504 (n : ℕ) : ZeroWord (Cert.KernelIdeal.lit0t0_504 n) := by
  rw [show Cert.KernelIdeal.lit0t0_504 n = Cert.KernelIdeal.lit0t0_504 (n % 128) by unfold Cert.KernelIdeal.lit0t0_504; rw [Nat.mod_mod]]
  exact (by decide +kernel : ∀ j : Fin 128, ZeroWord (Cert.KernelIdeal.lit0t0_504 j)) ⟨n % 128, Nat.mod_lt _ (by decide)⟩

theorem zero_506 (n : ℕ) : ZeroWord (Cert.KernelIdeal.lit0t0_506 n) := by
  rw [show Cert.KernelIdeal.lit0t0_506 n = Cert.KernelIdeal.lit0t0_506 (n % 128) by unfold Cert.KernelIdeal.lit0t0_506; rw [Nat.mod_mod]]
  exact (by decide +kernel : ∀ j : Fin 128, ZeroWord (Cert.KernelIdeal.lit0t0_506 j)) ⟨n % 128, Nat.mod_lt _ (by decide)⟩

theorem zero_508 (n : ℕ) : ZeroWord (Cert.KernelIdeal.lit0t0_508 n) := by
  rw [show Cert.KernelIdeal.lit0t0_508 n = Cert.KernelIdeal.lit0t0_508 (n % 128) by unfold Cert.KernelIdeal.lit0t0_508; rw [Nat.mod_mod]]
  exact (by decide +kernel : ∀ j : Fin 128, ZeroWord (Cert.KernelIdeal.lit0t0_508 j)) ⟨n % 128, Nat.mod_lt _ (by decide)⟩

theorem zero_510 (n : ℕ) : ZeroWord (Cert.KernelIdeal.lit0t0_510 n) := by
  rw [show Cert.KernelIdeal.lit0t0_510 n = Cert.KernelIdeal.lit0t0_510 (n % 128) by unfold Cert.KernelIdeal.lit0t0_510; rw [Nat.mod_mod]]
  exact (by decide +kernel : ∀ j : Fin 128, ZeroWord (Cert.KernelIdeal.lit0t0_510 j)) ⟨n % 128, Nat.mod_lt _ (by decide)⟩

/-- The runs of rows 192 to 255 off the diagonal block are zero. -/
theorem run3_zero (b n : ℕ) (hb : b < 64) : ZeroWord (run3 (2 * b) n) := match b with
  | 0 => zero_384 n
  | 1 => zero_386 n
  | 2 => zero_388 n
  | 3 => zero_390 n
  | 4 => zero_392 n
  | 5 => zero_394 n
  | 6 => zero_396 n
  | 7 => zero_398 n
  | 8 => zero_400 n
  | 9 => zero_402 n
  | 10 => zero_404 n
  | 11 => zero_406 n
  | 12 => zero_408 n
  | 13 => zero_410 n
  | 14 => zero_412 n
  | 15 => zero_414 n
  | 16 => zero_416 n
  | 17 => zero_418 n
  | 18 => zero_420 n
  | 19 => zero_422 n
  | 20 => zero_424 n
  | 21 => zero_426 n
  | 22 => zero_428 n
  | 23 => zero_430 n
  | 24 => zero_432 n
  | 25 => zero_434 n
  | 26 => zero_436 n
  | 27 => zero_438 n
  | 28 => zero_440 n
  | 29 => zero_442 n
  | 30 => zero_444 n
  | 31 => zero_446 n
  | 32 => zero_448 n
  | 33 => zero_450 n
  | 34 => zero_452 n
  | 35 => zero_454 n
  | 36 => zero_456 n
  | 37 => zero_458 n
  | 38 => zero_460 n
  | 39 => zero_462 n
  | 40 => zero_464 n
  | 41 => zero_466 n
  | 42 => zero_468 n
  | 43 => zero_470 n
  | 44 => zero_472 n
  | 45 => zero_474 n
  | 46 => zero_476 n
  | 47 => zero_478 n
  | 48 => zero_480 n
  | 49 => zero_482 n
  | 50 => zero_484 n
  | 51 => zero_486 n
  | 52 => zero_488 n
  | 53 => zero_490 n
  | 54 => zero_492 n
  | 55 => zero_494 n
  | 56 => zero_496 n
  | 57 => zero_498 n
  | 58 => zero_500 n
  | 59 => zero_502 n
  | 60 => zero_504 n
  | 61 => zero_506 n
  | 62 => zero_508 n
  | 63 => zero_510 n
  | k + 64 => absurd hb (by omega)

end HadamardQuant
-- ==== Proof.Table.lean ====
/- The kernel's matrix table, word by word, against the reference's. -/
module

public import proofs.«01_k».proof.Proof.TableZeros

@[expose] public section

set_option maxRecDepth 16384

namespace HadamardQuant

/-- The kernel's table by runs. -/
theorem word_run0 (n b : ℕ) (h : n / 16384 = 0) (hb : n / 128 % 128 = b) :
    Cert.KernelIdeal.lit0t n = run0 b n := by
  subst hb
  unfold Cert.KernelIdeal.lit0t
  rw [h]
  rfl

theorem word_run1 (n b : ℕ) (h : n / 16384 = 1) (hb : n / 128 % 128 = b) :
    Cert.KernelIdeal.lit0t n = run1 b n := by
  subst hb
  unfold Cert.KernelIdeal.lit0t
  rw [h]
  rfl

theorem word_run2 (n b : ℕ) (h : n / 16384 = 2) (hb : n / 128 % 128 = b) :
    Cert.KernelIdeal.lit0t n = run2 b n := by
  subst hb
  unfold Cert.KernelIdeal.lit0t
  rw [h]
  rfl

theorem word_run3 (n b : ℕ) (h : n / 16384 = 3) (hb : n / 128 % 128 = b) :
    Cert.KernelIdeal.lit0t n = run3 b n := by
  subst hb
  unfold Cert.KernelIdeal.lit0t
  rw [h]
  rfl

/-- The reference's table by runs. -/
theorem word_rowRun (r j : ℕ) (hj : j < 128) :
    Cert.ReferenceIdeal.lit0t (128 * r + j) = rowRun r j := by
  rw [← rowRun_mod r (128 * r + j) j (by omega)]
  have h : r = (128 * r + j) / 128 := by omega
  generalize 128 * r + j = n at h ⊢
  subst h
  rfl

/-- On a diagonal block the kernel's word is the reference's word at the same place of the block. -/
theorem word_diag (i c : ℕ) (hi : i < 256) (hc : c < 256) (h : i / 128 = c / 128) :
    Cert.KernelIdeal.lit0t (256 * i + c) =
      Cert.ReferenceIdeal.lit0t (128 * (i % 128) + c % 128) := by
  rw [word_rowRun _ _ (by omega), ← rowRun_mod (i % 128) (256 * i + c) (c % 128) (by omega)]
  have ha : i / 64 < 4 := by omega
  have hn : (256 * i + c) / 16384 = i / 64 := by omega
  have hr : i = 64 * (i / 64) + i % 64 := by omega
  have hb : i % 64 < 64 := by omega
  generalize i / 64 = a at ha hn hr
  generalize i % 64 = b at hb hr
  subst hr
  obtain rfl | rfl | rfl | rfl : a = 0 ∨ a = 1 ∨ a = 2 ∨ a = 3 := by omega
  · have hc' : c / 128 = 0 := by omega
    have hq : (256 * (64 * 0 + b) + c) / 128 = 0 + (2 * b) := by omega
    rw [word_run0 _ (2 * b) hn (by rw [hq]; omega), run0_diag b _ hb, show b + 0 = (64 * 0 + b) % 128 by omega]
  · have hc' : c / 128 = 0 := by omega
    have hq : (256 * (64 * 1 + b) + c) / 128 = 128 + (2 * b) := by omega
    rw [word_run1 _ (2 * b) hn (by rw [hq]; omega), run1_diag b _ hb, show b + 64 = (64 * 1 + b) % 128 by omega]
  · have hc' : c / 128 = 1 := by omega
    have hq : (256 * (64 * 2 + b) + c) / 128 = 256 + (2 * b + 1) := by omega
    rw [word_run2 _ (2 * b + 1) hn (by rw [hq]; omega), run2_diag b _ hb, show b + 0 = (64 * 2 + b) % 128 by omega]
  · have hc' : c / 128 = 1 := by omega
    have hq : (256 * (64 * 3 + b) + c) / 128 = 384 + (2 * b + 1) := by omega
    rw [word_run3 _ (2 * b + 1) hn (by rw [hq]; omega), run3_diag b _ hb, show b + 64 = (64 * 3 + b) % 128 by omega]

/-- Off the diagonal blocks the kernel's word is zero. -/
theorem word_zero (i c : ℕ) (hi : i < 256) (hc : c < 256) (h : i / 128 ≠ c / 128) :
    ZeroWord (Cert.KernelIdeal.lit0t (256 * i + c)) := by
  have ha : i / 64 < 4 := by omega
  have hn : (256 * i + c) / 16384 = i / 64 := by omega
  have hr : i = 64 * (i / 64) + i % 64 := by omega
  have hb : i % 64 < 64 := by omega
  generalize i / 64 = a at ha hn hr
  generalize i % 64 = b at hb hr
  subst hr
  obtain rfl | rfl | rfl | rfl : a = 0 ∨ a = 1 ∨ a = 2 ∨ a = 3 := by omega
  · rw [word_run0 _ (2 * b + 1) hn (by omega)]; exact run0_zero b _ hb
  · rw [word_run1 _ (2 * b + 1) hn (by omega)]; exact run1_zero b _ hb
  · rw [word_run2 _ (2 * b) hn (by omega)]; exact run2_zero b _ hb
  · rw [word_run3 _ (2 * b) hn (by omega)]; exact run3_zero b _ hb

end HadamardQuant
-- ==== Proof.Algebraic.lean ====
/- The kernel and the reference compute the same scale and the same codes over the extended reals. -/
module

public import proofs.«01_k».proof.Defs
public import proofs.«01_k».proof.Proof.KernelArrays
public import proofs.«01_k».proof.Proof.ReferenceArrays
public import proofs.«01_k».proof.Proof.Table

@[expose] public section

noncomputable section

namespace HadamardQuant

open Idealize.ShloMosaic Idealize.ShloMosaic.TcCoe Idealize.SL.Sem

theorem ofBits_zeroWord (w : BitVec 16) (h : ZeroWord w) : Ideal.ofBits .bf16 w = 0 := by
  rcases h with rfl | rfl
  · exact Ideal.ofBits_zero_bf16
  · simp [Ideal.ofBits, Ideal.ieee, -EReal.coe_mul]

theorem kernelMatrix_word (k c : Fin 256) : kernelMatrix k c = Ideal.ofBits .bf16 (Cert.KernelIdeal.lit0t (256 * k.val + c.val)) := by
  unfold kernelMatrix
  refine congrArg (fun n => Ideal.ofBits .bf16 (Cert.KernelIdeal.lit0t n)) ?_
  refine (Shape.rowMajor_val_two _).trans ?_
  show k.val * 256 + c.val = 256 * k.val + c.val
  omega

theorem referenceMatrix_word (k c : Fin 128) :
    referenceMatrix k c = Ideal.ofBits .bf16 (Cert.ReferenceIdeal.lit0t (128 * k.val + c.val)) := by
  unfold referenceMatrix
  refine congrArg (fun n => Ideal.ofBits .bf16 (Cert.ReferenceIdeal.lit0t n)) ?_
  refine (Shape.rowMajor_val_two _).trans ?_
  show k.val * 128 + c.val = 128 * k.val + c.val
  omega

/-- The kernel's product by its two diagonal blocks is the reference's product by one. -/
theorem product_eq (x : Fin 6144 → EReal) : product x kernelMatrix = blockProduct x referenceMatrix := by
  funext q
  refine product_collapse x kernelMatrix referenceMatrix (fun k c h => ?_) (fun k c h => ?_) q
  · rw [kernelMatrix_word, referenceMatrix_word, word_diag _ _ k.isLt c.isLt h]
  · rw [kernelMatrix_word]; exact ofBits_zeroWord _ (word_zero _ _ k.isLt c.isLt h)

theorem algebraic : Cert.algebraic_KernelIdeal_ReferenceIdeal := by
  intro m ρ m' ρ' _ hagree
  have row (c : Dev Cert.KernelIdeal.nD) (b : Fin 3) (s : Fin 768) :
      referenceRow (m' ((c.tc : Thread Cert.ReferenceIdeal.nD Cert.ReferenceIdeal.τ).loc Cert.ReferenceIdeal.main_arg0)) b s
        = kernelRow m c b s := by
    rw [hagree c]; unfold kernelRow; rw [product_eq]; rfl
  refine ⟨fun c => fun i : Cert.KernelIdeal.S3x768x1.Idx => rowScale (kernelRow m c (i 0) (i 1)),
    fun c => fun i : Cert.KernelIdeal.S3x768x6144.Idx => clipped (kernelRow m c (i 0) (i 1)) (i 2), ?_, ?_⟩
  · exact (θ_run Cert.KernelIdeal.defs _ _).mono
      (fun _ h c => ⟨(h c).1.trans (array_scale m c), (h c).2.1.trans (array_codes m c), (h c).2.2⟩)
      (Cert.KernelIdeal.Value.run_blocks (F := Ideal) m ρ)
  · exact (θ_run Cert.ReferenceIdeal.defs _ _).mono
      (fun _ h c => ⟨(h c).1.trans (funext fun i => congrArg rowScale (row c (i 0) (i 1))),
        (h c).2.1.trans (funext fun i => congrArg (fun y => clipped y (i 2)) (row c (i 0) (i 1))), (h c).2.2⟩)
      (reference_run m' ρ')

end HadamardQuant

end
-- ==== Proof.lean ====
/- The certificate: the three programs' frames as their own modules prove them, the idealized kernel preserved, and the
   algebraic claim from the module `Algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, HadamardQuant.algebraic⟩

end Cert.Proof

end
